-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x1024 : Shape := ⟨3, ![2, 512, 1024]⟩
abbrev S512x1024 : Shape := ⟨2, ![512, 1024]⟩
abbrev S512x4096 : Shape := ⟨2, ![512, 4096]⟩
abbrev S1x1024 : Shape := ⟨2, ![1, 1024]⟩
abbrev S1 : Shape := ⟨1, ![1]⟩
abbrev S1024x1024 : Shape := ⟨2, ![1024, 1024]⟩
abbrev S1024 : Shape := ⟨1, ![1024]⟩
abbrev S4096x4096 : Shape := ⟨2, ![4096, 4096]⟩
abbrev S4096x512 : Shape := ⟨2, ![4096, 512]⟩
abbrev S2x511x1024 : Shape := ⟨3, ![2, 511, 1024]⟩
abbrev S511x2x1024 : Shape := ⟨3, ![511, 2, 1024]⟩
abbrev S1022x1024 : Shape := ⟨2, ![1022, 1024]⟩
abbrev S_ : Shape := ⟨0, ![]⟩
abbrev S1024x512 : Shape := ⟨2, ![1024, 512]⟩
abbrev S1x1 : Shape := ⟨2, ![1, 1]⟩
abbrev S1024x4096 : Shape := ⟨2, ![1024, 4096]⟩
abbrev S1024x1 : Shape := ⟨2, ![1024, 1]⟩
abbrev S2x512 : Shape := ⟨2, ![2, 512]⟩
abbrev S8x1024 : Shape := ⟨2, ![8, 1024]⟩
abbrev S2 : Shape := ⟨1, ![2]⟩
abbrev S2x1 : Shape := ⟨2, ![2, 1]⟩
abbrev S8x512 : Shape := ⟨2, ![8, 512]⟩
abbrev S8x1 : Shape := ⟨2, ![8, 1]⟩
abbrev S256x512 : Shape := ⟨2, ![256, 512]⟩
abbrev S256x4096 : Shape := ⟨2, ![256, 4096]⟩
abbrev S512x2x1 : Shape := ⟨3, ![512, 2, 1]⟩
abbrev S512x2x4096 : Shape := ⟨3, ![512, 2, 4096]⟩
abbrev S2x4096 : Shape := ⟨2, ![2, 4096]⟩
abbrev S1x2x4096 : Shape := ⟨3, ![1, 2, 4096]⟩
abbrev S1x2x1 : Shape := ⟨3, ![1, 2, 1]⟩
abbrev S2x1x1024 : Shape := ⟨3, ![2, 1, 1024]⟩
abbrev S2x1024 : Shape := ⟨2, ![2, 1024]⟩

abbrev nBuf : Space → Nat
  | .hbm => 56
  | .vmem => 48
  | .smem => 0
  | _ => 0

abbrev bufTy : (tb : Table) → Fin (tcTables nBuf tb) → BufTy
  | .hbm, ⟨0, _⟩ => ⟨S2x512x1024, .f32⟩
  | .hbm, ⟨1, _⟩ => ⟨S512x1024, .f32⟩
  | .hbm, ⟨2, _⟩ => ⟨S512x1024, .f32⟩
  | .hbm, ⟨3, _⟩ => ⟨S512x4096, .f32⟩
  | .hbm, ⟨4, _⟩ => ⟨S512x4096, .f32⟩
  | .hbm, ⟨5, _⟩ => ⟨S1x1024, .f32⟩
  | .hbm, ⟨6, _⟩ => ⟨S1, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x4096, .f32⟩
  | .hbm, ⟨12, _⟩ => ⟨S4096x512, .f32⟩
  | .hbm, ⟨13, _⟩ => ⟨S4096x4096, .f32⟩
  | .hbm, ⟨14, _⟩ => ⟨S4096x512, .f32⟩
  | .hbm, ⟨15, _⟩ => ⟨S2x511x1024, .f32⟩
  | .hbm, ⟨16, _⟩ => ⟨S511x2x1024, .f32⟩
  | .hbm, ⟨17, _⟩ => ⟨S1022x1024, .f32⟩
  | .hbm, ⟨18, _⟩ => ⟨S_, .i32⟩
  | .hbm, ⟨19, _⟩ => ⟨S_, .f32⟩
  | .hbm, ⟨20, _⟩ => ⟨S1024x1024, .f32⟩
  | .hbm, ⟨21, _⟩ => ⟨S1024x512, .f32⟩
  | .hbm, ⟨22, _⟩ => ⟨S1024x512, .f32⟩
  | .hbm, ⟨23, _⟩ => ⟨S1024x1024, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S512x4096, .f32⟩
  | .hbm, ⟨29, _⟩ => ⟨S512x4096, .bf16⟩
  | .hbm, ⟨30, _⟩ => ⟨S1024x4096, .bf16⟩
  | .hbm, ⟨31, _⟩ => ⟨S1024x1, .f32⟩
  | .hbm, ⟨32, _⟩ => ⟨S512x4096, .f32⟩
  | .hbm, ⟨33, _⟩ => ⟨S512x4096, .bf16⟩
  | .hbm, ⟨34, _⟩ => ⟨S1024x4096, .bf16⟩
  | .hbm, ⟨35, _⟩ => ⟨S1024x1, .f32⟩
  | .hbm, ⟨36, _⟩ => ⟨S512x2x1, .f32⟩
  | .hbm, ⟨37, _⟩ => ⟨S4096x4096, .f32⟩
  | .hbm, ⟨38, _⟩ => ⟨S4096x4096, .bf16⟩
  | .hbm, ⟨39, _⟩ => ⟨S512x2x4096, .bf16⟩
  | .hbm, ⟨40, _⟩ => ⟨S2x4096, .f32⟩
  | .hbm, ⟨41, _⟩ => ⟨S4096x4096, .f32⟩
  | .hbm, ⟨42, _⟩ => ⟨S4096x4096, .bf16⟩
  | .hbm, ⟨43, _⟩ => ⟨S512x2x4096, .bf16⟩
  | .hbm, ⟨44, _⟩ => ⟨S2x4096, .f32⟩
  | .hbm, ⟨45, _⟩ => ⟨S4096x512, .f32⟩
  | .hbm, ⟨46, _⟩ => ⟨S4096x512, .f32⟩
  | .hbm, ⟨47, _⟩ => ⟨S2x1x1024, .f32⟩
  | .hbm, ⟨48, _⟩ => ⟨S2x1024, .f32⟩
  | .hbm, ⟨49, _⟩ => ⟨S1024x1, .f32⟩
  | .hbm, ⟨50, _⟩ => ⟨S1x1, .f32⟩
  | .hbm, ⟨51, _⟩ => ⟨S1024x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S512x4096, .bf16⟩
  | .local _ .vmem, ⟨3, _⟩ => ⟨S1x1, .f32⟩
  | .local _ .vmem, ⟨4, _⟩ => ⟨S1024x4096, .bf16⟩
  | .local _ .vmem, ⟨5, _⟩ => ⟨S1024x1, .f32⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S2x512, .f32⟩
  | .local _ .vmem, ⟨10, _⟩ => ⟨S2x512, .f32⟩
  | .local _ .vmem, ⟨11, _⟩ => ⟨S1024x1024, .f32⟩
  | .local _ .vmem, ⟨12, _⟩ => ⟨S1024x1024, .f32⟩
  | .local _ .vmem, ⟨13, _⟩ => ⟨S512x4096, .bf16⟩
  | .local _ .vmem, ⟨14, _⟩ => ⟨S1x1, .f32⟩
  | .local _ .vmem, ⟨15, _⟩ => ⟨S1024x4096, .bf16⟩
  | .local _ .vmem, ⟨16, _⟩ => ⟨S1024x1, .f32⟩
  | .local _ .vmem, ⟨17, _⟩ => ⟨S1024x1024, .f32⟩
  | .local _ .vmem, ⟨18, _⟩ => ⟨S1024x512, .f32⟩
  | .local _ .vmem, ⟨19, _⟩ => ⟨S1024x512, .f32⟩
  | .local _ .vmem, ⟨20, _⟩ => ⟨S2x512, .f32⟩
  | .local _ .vmem, ⟨21, _⟩ => ⟨S2x512, .f32⟩
  | .local _ .vmem, ⟨22, _⟩ => ⟨S4096x4096, .bf16⟩
  | .local _ .vmem, ⟨23, _⟩ => ⟨S1x2x4096, .bf16⟩
  | .local _ .vmem, ⟨24, _⟩ => ⟨S1x2x4096, .bf16⟩
  | .local _ .vmem, ⟨25, _⟩ => ⟨S1x2x1, .f32⟩
  | .local _ .vmem, ⟨26, _⟩ => ⟨S1x2x1, .f32⟩
  | .local _ .vmem, ⟨27, _⟩ => ⟨S2x4096, .f32⟩
  | .local _ .vmem, ⟨28, _⟩ => ⟨S2x4096, .f32⟩
  | .local _ .vmem, ⟨29, _⟩ => ⟨S4096x4096, .bf16⟩
  | .local _ .vmem, ⟨30, _⟩ => ⟨S1x2x4096, .bf16⟩
  | .local _ .vmem, ⟨31, _⟩ => ⟨S1x2x4096, .bf16⟩
  | .local _ .vmem, ⟨32, _⟩ => ⟨S1x2x1, .f32⟩
  | .local _ .vmem, ⟨33, _⟩ => ⟨S1x2x1, .f32⟩
  | .local _ .vmem, ⟨34, _⟩ => ⟨S2x4096, .f32⟩
  | .local _ .vmem, ⟨35, _⟩ => ⟨S2x4096, .f32⟩
  | .local _ .vmem, ⟨36, _⟩ => ⟨S2x4096, .f32⟩
  | .local _ .vmem, ⟨37, _⟩ => ⟨S2x4096, .f32⟩
  | .local _ .vmem, ⟨38, _⟩ => ⟨S4096x512, .f32⟩
  | .local _ .vmem, ⟨39, _⟩ => ⟨S4096x512, .f32⟩
  | .local _ .vmem, ⟨40, _⟩ => ⟨S2x1024, .f32⟩
  | .local _ .vmem, ⟨41, _⟩ => ⟨S1024x1, .f32⟩
  | .local _ .vmem, ⟨42, _⟩ => ⟨S1x1, .f32⟩
  | .local _ .vmem, ⟨43, _⟩ => ⟨S1024x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S2x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc1_scratch3 : Ref sig .tc := ⟨.vmem, 20, rfl⟩
abbrev cc1_scratch4 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg11_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem8_0 : DmaSem sig := 32
abbrev cc4_sem9_0 : DmaSem sig := 33
abbrev cc4_sem10_0 : DmaSem sig := 34
abbrev cc4_sem11_0 : DmaSem sig := 35

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v16 : BitVec 32 := Scalar.addi c0_i32 c128_i32
  let c1_i32 : BitVec 32 := 1#32
  ⟨c0_i32, v16, c1_i32⟩
def k0_off1 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v59 : BitVec 32 := Scalar.muli c8_i32 arg11
  let v60 : Index := Scalar.indexCast v59
  let c0_51 : Index := 0#32
  ![v60.toNat, 0]
def k0_off2 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v59 : BitVec 32 := Scalar.muli c8_i32 arg11
  let v299 : Index := Scalar.indexCast v59
  let c0_128 : Index := 0#32
  ![v299.toNat, 0]
def k0_off3 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v59 : BitVec 32 := Scalar.muli c8_i32 arg11
  let v309 : Index := Scalar.indexCast v59
  let c0_130 : Index := 0#32
  ![v309.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c128_i32 : BitVec 32 := 128#32
  let v16 : BitVec 32 := Scalar.addi c0_i32 c128_i32
  let c1_i32 : BitVec 32 := 1#32
  ⟨c0_i32, v16, c1_i32⟩
def k1_off1 (k1_t1 : Fin k1_t1_loop.trips) : Fin 2 → Nat :=
  let c8_i32 : BitVec 32 := 8#32
  let c0_i32 : BitVec 32 := 0#32
  let c1_i32 : BitVec 32 := 1#32
  let arg11 : BitVec 32 := Scf.iv c0_i32 c1_i32 k1_t1
  let v59 : BitVec 32 := Scalar.muli c8_i32 arg11
  let v60 : Index := Scalar.indexCast v59
  let c0_51 : Index := 0#32
  ![v60.toNat, 0]
def k1_off2 (k1_t1 : Fin k1_t1_loop.trips) : Fin 2 → Nat :=
  let c8_i32 : BitVec 32 := 8#32
  let c0_i32 : BitVec 32 := 0#32
  let c1_i32 : BitVec 32 := 1#32
  let arg11 : BitVec 32 := Scf.iv c0_i32 c1_i32 k1_t1
  let v59 : BitVec 32 := Scalar.muli c8_i32 arg11
  let v299 : Index := Scalar.indexCast v59
  let c0_128 : Index := 0#32
  ![v299.toNat, 0]
def k1_off3 (k1_t1 : Fin k1_t1_loop.trips) : Fin 2 → Nat :=
  let c8_i32 : BitVec 32 := 8#32
  let c0_i32 : BitVec 32 := 0#32
  let c1_i32 : BitVec 32 := 1#32
  let arg11 : BitVec 32 := Scf.iv c0_i32 c1_i32 k1_t1
  let v59 : BitVec 32 := Scalar.muli c8_i32 arg11
  let v309 : Index := Scalar.indexCast v59
  let c0_130 : Index := 0#32
  ![v309.toNat, 0]
abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![512], ![false]⟩

def k2_cond2 (i : grid2.Coords) : BitVec 1 :=
  let arg0 : BitVec 32 := BitVec.ofNat 32 (i 0).val
  let c511_i32 : BitVec 32 := 511#32
  let v23 : BitVec 1 := Scalar.cmpi .eq arg0 c511_i32
  let v24 : BitVec 32 := Scalar.extui v23
  let c0_i32_13 : BitVec 32 := 0#32
  let v25 : BitVec 1 := Scalar.cmpi .ne v24 c0_i32_13
  v25

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x2x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![512], ![false]⟩

def k3_cond2 (i : grid3.Coords) : BitVec 1 :=
  let arg0 : BitVec 32 := BitVec.ofNat 32 (i 0).val
  let c511_i32 : BitVec 32 := 511#32
  let v23 : BitVec 1 := Scalar.cmpi .eq arg0 c511_i32
  let v24 : BitVec 32 := Scalar.extui v23
  let c0_i32_13 : BitVec 32 := 0#32
  let v25 : BitVec 1 := Scalar.cmpi .ne v24 c0_i32_13
  v25

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S4096x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x2x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := .none

abbrev stage4_0 : Fin 1 → Memref sig .tc .vmem S2x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S4096x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S4096x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S2x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1024x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1024x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S1x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S2x1024 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
-- ==== ReferenceIdeal.lean ====
abbrev S2x512x1024 : Shape := ⟨3, ![2, 512, 1024]⟩
abbrev S512x1024 : Shape := ⟨2, ![512, 1024]⟩
abbrev S512x4096 : Shape := ⟨2, ![512, 4096]⟩
abbrev S1x1024 : Shape := ⟨2, ![1, 1024]⟩
abbrev S1 : Shape := ⟨1, ![1]⟩
abbrev S1024x1024 : Shape := ⟨2, ![1024, 1024]⟩
abbrev S1024 : Shape := ⟨1, ![1024]⟩
abbrev S4096x4096 : Shape := ⟨2, ![4096, 4096]⟩
abbrev S4096x512 : Shape := ⟨2, ![4096, 512]⟩
abbrev S2x511x1024 : Shape := ⟨3, ![2, 511, 1024]⟩
abbrev S2x511x512 : Shape := ⟨3, ![2, 511, 512]⟩
abbrev S_ : Shape := ⟨0, ![]⟩
abbrev S2x511 : Shape := ⟨2, ![2, 511]⟩
abbrev S2x511x1 : Shape := ⟨3, ![2, 511, 1]⟩
abbrev S511x2x512 : Shape := ⟨3, ![511, 2, 512]⟩
abbrev S511 : Shape := ⟨1, ![511]⟩
abbrev S2x4096 : Shape := ⟨2, ![2, 4096]⟩
abbrev S2x512 : Shape := ⟨2, ![2, 512]⟩
abbrev S1x2x512 : Shape := ⟨3, ![1, 2, 512]⟩
abbrev S2 : Shape := ⟨1, ![2]⟩
abbrev S2x1 : Shape := ⟨2, ![2, 1]⟩
abbrev S2x1024 : Shape := ⟨2, ![2, 1024]⟩
abbrev S2x1x1024 : Shape := ⟨3, ![2, 1, 1024]⟩
abbrev S1024x1 : Shape := ⟨2, ![1024, 1]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S2x512x1024, .f32⟩
  | 1 => ⟨S512x1024, .f32⟩
  | 2 => ⟨S512x1024, .f32⟩
  | 3 => ⟨S512x4096, .f32⟩
  | 4 => ⟨S512x4096, .f32⟩
  | 5 => ⟨S1x1024, .f32⟩
  | 6 => ⟨S1, .f32⟩
  | 7 => ⟨S1024x1024, .f32⟩
  | 8 => ⟨S1024, .f32⟩
  | 9 => ⟨S1024, .f32⟩
  | 10 => ⟨S1024, .f32⟩
  | 11 => ⟨S4096x4096, .f32⟩
  | 12 => ⟨S4096x512, .f32⟩
  | 13 => ⟨S4096x4096, .f32⟩
  | 14 => ⟨S4096x512, .f32⟩
  | 15 => ⟨S2x511x1024, .f32⟩
  | 16 => ⟨S2x511x512, .f32⟩
  | 17 => ⟨S2x511x512, .f32⟩
  | 18 => ⟨S2x511x512, .f32⟩
  | 19 => ⟨S_, .f32⟩
  | 20 => ⟨S2x511, .f32⟩
  | 21 => ⟨S2x511x1, .f32⟩
  | 22 => ⟨S2x511x1, .f32⟩
  | 23 => ⟨S_, .f32⟩
  | 24 => ⟨S2x511x1, .f32⟩
  | 25 => ⟨S2x511x1, .f32⟩
  | 26 => ⟨S2x511x512, .f32⟩
  | 27 => ⟨S2x511x512, .f32⟩
  | 28 => ⟨S2x511x512, .f32⟩
  | 29 => ⟨S_, .f32⟩
  | 30 => ⟨S2x511, .f32⟩
  | 31 => ⟨S2x511x1, .f32⟩
  | 32 => ⟨S2x511x1, .f32⟩
  | 33 => ⟨S_, .f32⟩
  | 34 => ⟨S2x511x1, .f32⟩
  | 35 => ⟨S2x511x1, .f32⟩
  | 36 => ⟨S2x511x512, .f32⟩
  | 37 => ⟨S2x511x512, .f32⟩
  | 38 => ⟨S511x2x512, .f32⟩
  | 39 => ⟨S511x2x512, .f32⟩
  | 40 => ⟨S511x2x512, .f32⟩
  | 41 => ⟨S511x2x512, .f32⟩
  | 42 => ⟨S511, .f32⟩
  | 43 => ⟨S_, .f32⟩
  | 44 => ⟨S511, .f32⟩
  | 45 => ⟨S511, .f32⟩
  | 46 => ⟨S_, .f32⟩
  | 47 => ⟨S511, .f32⟩
  | 48 => ⟨S511, .f32⟩
  | 49 => ⟨S_, .f32⟩
  | 50 => ⟨S2x4096, .f32⟩
  | 51 => ⟨S_, .f32⟩
  | 52 => ⟨S2x512, .f32⟩
  | 53 => ⟨S_, .i32⟩
  | 54 => ⟨S511x2x512, .f32⟩
  | 55 => ⟨S511x2x512, .f32⟩
  | 56 => ⟨S511x2x512, .f32⟩
  | 57 => ⟨S511x2x512, .f32⟩
  | 58 => ⟨S511, .f32⟩
  | 59 => ⟨S4096x4096, .f32⟩
  | 60 => ⟨S4096x512, .f32⟩
  | 61 => ⟨S4096x4096, .f32⟩
  | 62 => ⟨S4096x512, .f32⟩
  | 63 => ⟨S_, .i32⟩
  | 64 => ⟨S2x4096, .f32⟩
  | 65 => ⟨S2x4096, .f32⟩
  | 66 => ⟨S2x512, .f32⟩
  | 67 => ⟨S2x512, .f32⟩
  | 68 => ⟨S_, .i32⟩
  | 69 => ⟨S_, .i1⟩
  | 70 => ⟨S_, .i32⟩
  | 71 => ⟨S_, .i32⟩
  | 72 => ⟨S1x2x512, .f32⟩
  | 73 => ⟨S2x512, .f32⟩
  | 74 => ⟨S_, .i32⟩
  | 75 => ⟨S_, .i32⟩
  | 76 => ⟨S1x2x512, .f32⟩
  | 77 => ⟨S2x512, .f32⟩
  | 78 => ⟨S_, .i32⟩
  | 79 => ⟨S_, .i32⟩
  | 80 => ⟨S1x2x512, .f32⟩
  | 81 => ⟨S2x512, .f32⟩
  | 82 => ⟨S_, .i32⟩
  | 83 => ⟨S_, .i32⟩
  | 84 => ⟨S1x2x512, .f32⟩
  | 85 => ⟨S2x512, .f32⟩
  | 86 => ⟨S1, .f32⟩
  | 87 => ⟨S_, .f32⟩
  | 88 => ⟨S2x512, .f32⟩
  | 89 => ⟨S2x512, .f32⟩
  | 90 => ⟨S_, .f32⟩
  | 91 => ⟨S2, .f32⟩
  | 92 => ⟨S2, .f32⟩
  | 93 => ⟨S2x512, .f32⟩
  | 94 => ⟨S2x512, .f32⟩
  | 95 => ⟨S_, .f32⟩
  | 96 => ⟨S2, .f32⟩
  | 97 => ⟨S2, .f32⟩
  | 98 => ⟨S2x512, .f32⟩
  | 99 => ⟨S_, .f32⟩
  | 100 => ⟨S2, .f32⟩
  | 101 => ⟨S2, .f32⟩
  | 102 => ⟨S_, .f32⟩
  | 103 => ⟨S2, .f32⟩
  | 104 => ⟨S2, .f32⟩
  | 105 => ⟨S2, .i1⟩
  | 106 => ⟨S2x512, .f32⟩
  | 107 => ⟨S_, .f32⟩
  | 108 => ⟨S2, .f32⟩
  | 109 => ⟨S2, .f32⟩
  | 110 => ⟨S_, .f32⟩
  | 111 => ⟨S2, .f32⟩
  | 112 => ⟨S2, .f32⟩
  | 113 => ⟨S2, .i1⟩
  | 114 => ⟨S2, .i1⟩
  | 115 => ⟨S_, .f32⟩
  | 116 => ⟨S2x512, .f32⟩
  | 117 => ⟨S2x512, .f32⟩
  | 118 => ⟨S_, .f32⟩
  | 119 => ⟨S2x512, .f32⟩
  | 120 => ⟨S2x512, .f32⟩
  | 121 => ⟨S2x512, .f32⟩
  | 122 => ⟨S_, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S2x512x1024, .f32⟩

abbrev hbmTy0_1 (i : Nat) : BufTy := match i % 128 with
  | 0 => ⟨S2x512, .f32⟩
  | 1 => ⟨S4096x4096, .f32⟩
  | 2 => ⟨S2x4096, .f32⟩
  | 3 => ⟨S512x4096, .f32⟩
  | 4 => ⟨S2x4096, .f32⟩
  | 5 => ⟨S2x4096, .f32⟩
  | 6 => ⟨S2x4096, .f32⟩
  | 7 => ⟨S4096x4096, .f32⟩
  | 8 => ⟨S2x4096, .f32⟩
  | 9 => ⟨S2x512, .f32⟩
  | 10 => ⟨S2x512, .f32⟩
  | 11 => ⟨S512x4096, .f32⟩
  | 12 => ⟨S2x4096, .f32⟩
  | 13 => ⟨S2x4096, .f32⟩
  | 14 => ⟨S2x4096, .f32⟩
  | 15 => ⟨S2x1, .i1⟩
  | 16 => ⟨S2x4096, .i1⟩
  | 17 => ⟨S2x4096, .f32⟩
  | 18 => ⟨S2x4096, .i1⟩
  | 19 => ⟨S2x4096, .f32⟩
  | 20 => ⟨S_, .i32⟩
  | 21 => ⟨S_, .i32⟩
  | 22 => ⟨S4096x512, .f32⟩
  | 23 => ⟨S2x512, .f32⟩
  | 24 => ⟨S4096x512, .f32⟩
  | 25 => ⟨S2x512, .f32⟩
  | 26 => ⟨S2x1024, .f32⟩
  | 27 => ⟨S2x1x1024, .f32⟩
  | 28 => ⟨S2x1024, .f32⟩
  | 29 => ⟨S1024x1, .f32⟩
  | 30 => ⟨S2x1, .f32⟩
  | 31 => ⟨S1x1, .f32⟩
  | 32 => ⟨S2x1, .f32⟩
  | 33 => ⟨S2x1, .f32⟩
  | 34 => ⟨S2x1, .f32⟩
  | 35 => ⟨S2x1, .f32⟩
  | 36 => ⟨S_, .f32⟩
  | 37 => ⟨S2x1, .f32⟩
  | 38 => ⟨S2x1, .f32⟩
  | 39 => ⟨S_, .f32⟩
  | 40 => ⟨S2x1, .f32⟩
  | 41 => ⟨S2x1, .f32⟩
  | 42 => ⟨S2x1024, .f32⟩
  | 43 => ⟨S2x1024, .f32⟩
  | 44 => ⟨S1024x1024, .f32⟩
  | 45 => ⟨S2x1024, .f32⟩
  | 46 => ⟨S1x1024, .f32⟩
  | 47 => ⟨S2x1024, .f32⟩
  | 48 => ⟨S2x1024, .f32⟩
  | 49 => ⟨S_, .f32⟩
  | 50 => ⟨S2, .f32⟩
  | 51 => ⟨S2x1, .f32⟩
  | 52 => ⟨S_, .f32⟩
  | 53 => ⟨S2x1, .f32⟩
  | 54 => ⟨S2x1, .f32⟩
  | 55 => ⟨S2x1024, .f32⟩
  | 56 => ⟨S2x1024, .f32⟩
  | 57 => ⟨S2x1024, .f32⟩
  | 58 => ⟨S_, .f32⟩
  | 59 => ⟨S2, .f32⟩
  | 60 => ⟨S2x1, .f32⟩
  | 61 => ⟨S_, .f32⟩
  | 62 => ⟨S2x1, .f32⟩
  | 63 => ⟨S2x1, .f32⟩
  | 64 => ⟨S2x1024, .f32⟩
  | 65 => ⟨S2x1024, .f32⟩
  | 66 => ⟨S_, .f32⟩
  | 67 => ⟨S2x1, .f32⟩
  | 68 => ⟨S2x1, .f32⟩
  | 69 => ⟨S2x1, .f32⟩
  | 70 => ⟨S2x1024, .f32⟩
  | 71 => ⟨S2x1024, .f32⟩
  | 72 => ⟨S1x1024, .f32⟩
  | 73 => ⟨S2x1024, .f32⟩
  | 74 => ⟨S2x1024, .f32⟩
  | 75 => ⟨S1x1024, .f32⟩
  | 76 => ⟨S2x1024, .f32⟩
  | 77 => ⟨S2x1024, .f32⟩
  | _ => ⟨S2x512x1024, .f32⟩

abbrev hbmTy (i : Nat) : BufTy := match i / 128 with
  | 0 => hbmTy0_0 i
  | 1 => hbmTy0_1 i
  | _ => ⟨S2x512x1024, .f32⟩

abbrev bufTy : (tb : Table) → Fin (tcTables nBuf tb) → BufTy
  | .hbm, ⟨i, _⟩ => hbmTy i
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_cst_4 : Ref sig .tc := ⟨.hbm, 51, rfl⟩
abbrev main_v23 : Ref sig .tc := ⟨.hbm, 52, rfl⟩
abbrev main_c : Ref sig .tc := ⟨.hbm, 53, rfl⟩
abbrev main_v24_0 : Ref sig .tc := ⟨.hbm, 54, rfl⟩
abbrev main_v24_1 : Ref sig .tc := ⟨.hbm, 55, rfl⟩
abbrev main_v24_2 : Ref sig .tc := ⟨.hbm, 56, rfl⟩
abbrev main_v24_3 : Ref sig .tc := ⟨.hbm, 57, rfl⟩
abbrev main_v24_4 : Ref sig .tc := ⟨.hbm, 58, rfl⟩
abbrev main_v24_5 : Ref sig .tc := ⟨.hbm, 59, rfl⟩
abbrev main_v24_6 : Ref sig .tc := ⟨.hbm, 60, rfl⟩
abbrev main_v24_7 : Ref sig .tc := ⟨.hbm, 61, rfl⟩
abbrev main_v24_8 : Ref sig .tc := ⟨.hbm, 62, rfl⟩
abbrev main_v24_9 : Ref sig .tc := ⟨.hbm, 63, rfl⟩
abbrev main_v24_10 : Ref sig .tc := ⟨.hbm, 64, rfl⟩
abbrev main_v24_11 : Ref sig .tc := ⟨.hbm, 65, rfl⟩
abbrev main_v24_12 : Ref sig .tc := ⟨.hbm, 66, rfl⟩
abbrev main_v24_13 : Ref sig .tc := ⟨.hbm, 67, rfl⟩
abbrev main_while0c_c_25 : Ref sig .tc := ⟨.hbm, 68, rfl⟩
abbrev main_while0c_v74 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_v0 : Ref sig .tc := ⟨.hbm, 72, rfl⟩
abbrev main_while0b_v74 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_v0 : Ref sig .tc := ⟨.hbm, 76, rfl⟩
abbrev main_while0b_v75 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_v0 : Ref sig .tc := ⟨.hbm, 80, rfl⟩
abbrev main_while0b_v76 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_v0 : Ref sig .tc := ⟨.hbm, 84, rfl⟩
abbrev main_while0b_v77 : Ref sig .tc := ⟨.hbm, 85, rfl⟩
abbrev main_while0b_call6_v0 : Ref sig .tc := ⟨.hbm, 86, rfl⟩
abbrev main_while0b_v78 : Ref sig .tc := ⟨.hbm, 87, rfl⟩
abbrev main_while0b_v79 : Ref sig .tc := ⟨.hbm, 88, rfl⟩
abbrev main_while0b_call7_v0 : Ref sig .tc := ⟨.hbm, 89, rfl⟩
abbrev main_while0b_call7_cst : Ref sig .tc := ⟨.hbm, 90, rfl⟩
abbrev main_while0b_call7_v1 : Ref sig .tc := ⟨.hbm, 91, rfl⟩
abbrev main_while0b_v80 : Ref sig .tc := ⟨.hbm, 92, rfl⟩
abbrev main_while0b_v81 : Ref sig .tc := ⟨.hbm, 93, rfl⟩
abbrev main_while0b_call8_v0 : Ref sig .tc := ⟨.hbm, 94, rfl⟩
abbrev main_while0b_call8_cst : Ref sig .tc := ⟨.hbm, 95, rfl⟩
abbrev main_while0b_call8_v1 : Ref sig .tc := ⟨.hbm, 96, rfl⟩
abbrev main_while0b_v82 : Ref sig .tc := ⟨.hbm, 97, rfl⟩
abbrev main_while0b_call9_v0 : Ref sig .tc := ⟨.hbm, 98, rfl⟩
abbrev main_while0b_call9_cst : Ref sig .tc := ⟨.hbm, 99, rfl⟩
abbrev main_while0b_call9_v1 : Ref sig .tc := ⟨.hbm, 100, rfl⟩
abbrev main_while0b_v83 : Ref sig .tc := ⟨.hbm, 101, rfl⟩
abbrev main_while0b_cst_25 : Ref sig .tc := ⟨.hbm, 102, rfl⟩
abbrev main_while0b_v84 : Ref sig .tc := ⟨.hbm, 103, rfl⟩
abbrev main_while0b_v85 : Ref sig .tc := ⟨.hbm, 104, rfl⟩
abbrev main_while0b_v86 : Ref sig .tc := ⟨.hbm, 105, rfl⟩
abbrev main_while0b_call10_v0 : Ref sig .tc := ⟨.hbm, 106, rfl⟩
abbrev main_while0b_call10_cst : Ref sig .tc := ⟨.hbm, 107, rfl⟩
abbrev main_while0b_call10_v1 : Ref sig .tc := ⟨.hbm, 108, rfl⟩
abbrev main_while0b_v87 : Ref sig .tc := ⟨.hbm, 109, rfl⟩
abbrev main_while0b_cst_26 : Ref sig .tc := ⟨.hbm, 110, rfl⟩
abbrev main_while0b_v88 : Ref sig .tc := ⟨.hbm, 111, rfl⟩
abbrev main_while0b_v89 : Ref sig .tc := ⟨.hbm, 112, rfl⟩
abbrev main_while0b_v90 : Ref sig .tc := ⟨.hbm, 113, rfl⟩
abbrev main_while0b_v91 : Ref sig .tc := ⟨.hbm, 114, rfl⟩
abbrev main_while0b_cst_27 : Ref sig .tc := ⟨.hbm, 115, rfl⟩
abbrev main_while0b_v92 : Ref sig .tc := ⟨.hbm, 116, rfl⟩
abbrev main_while0b_v93 : Ref sig .tc := ⟨.hbm, 117, rfl⟩
abbrev main_while0b_cst_28 : Ref sig .tc := ⟨.hbm, 118, rfl⟩
abbrev main_while0b_v94 : Ref sig .tc := ⟨.hbm, 119, rfl⟩
abbrev main_while0b_v95 : Ref sig .tc := ⟨.hbm, 120, rfl⟩
abbrev main_while0b_v96 : Ref sig .tc := ⟨.hbm, 121, rfl⟩
abbrev main_while0b_cst_29 : Ref sig .tc := ⟨.hbm, 122, rfl⟩
abbrev main_while0b_v97 : Ref sig .tc := ⟨.hbm, 123, rfl⟩
abbrev main_while0b_v98 : Ref sig .tc := ⟨.hbm, 124, rfl⟩
abbrev main_while0b_cst_30 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_v108 : Ref sig .tc := ⟨.hbm, 135, rfl⟩
abbrev main_while0b_v109 : Ref sig .tc := ⟨.hbm, 136, rfl⟩
abbrev main_while0b_v110 : Ref sig .tc := ⟨.hbm, 137, rfl⟩
abbrev main_while0b_v111 : Ref sig .tc := ⟨.hbm, 138, rfl⟩
abbrev main_while0b_v112 : Ref sig .tc := ⟨.hbm, 139, rfl⟩
abbrev main_while0b_v113 : Ref sig .tc := ⟨.hbm, 140, rfl⟩
abbrev main_while0b_v114 : Ref sig .tc := ⟨.hbm, 141, rfl⟩
abbrev main_while0b_v115 : Ref sig .tc := ⟨.hbm, 142, rfl⟩
abbrev main_while0b_v116 : Ref sig .tc := ⟨.hbm, 143, rfl⟩
abbrev main_while0b_call11_v0 : Ref sig .tc := ⟨.hbm, 144, rfl⟩
abbrev main_while0b_v117 : Ref sig .tc := ⟨.hbm, 145, rfl⟩
abbrev main_while0b_call12_v0 : Ref sig .tc := ⟨.hbm, 146, rfl⟩
abbrev main_while0b_v118 : Ref sig .tc := ⟨.hbm, 147, rfl⟩
abbrev main_while0b_c_31 : Ref sig .tc := ⟨.hbm, 148, rfl⟩
abbrev main_while0b_v119 : Ref sig .tc := ⟨.hbm, 149, rfl⟩
abbrev main_v25 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_cst_5 : Ref sig .tc := ⟨.hbm, 164, rfl⟩
abbrev main_v39 : Ref sig .tc := ⟨.hbm, 165, rfl⟩
abbrev main_v40 : Ref sig .tc := ⟨.hbm, 166, rfl⟩
abbrev main_cst_6 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_cst_7 : Ref sig .tc := ⟨.hbm, 177, rfl⟩
abbrev main_v50 : Ref sig .tc := ⟨.hbm, 178, rfl⟩
abbrev main_v51 : Ref sig .tc := ⟨.hbm, 179, rfl⟩
abbrev main_cst_8 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_cst_9 : Ref sig .tc := ⟨.hbm, 186, rfl⟩
abbrev main_v57 : Ref sig .tc := ⟨.hbm, 187, rfl⟩
abbrev main_v58 : Ref sig .tc := ⟨.hbm, 188, rfl⟩
abbrev main_cst_10 : Ref sig .tc := ⟨.hbm, 189, rfl⟩
abbrev main_v59 : Ref sig .tc := ⟨.hbm, 190, rfl⟩
abbrev main_v60 : Ref sig .tc := ⟨.hbm, 191, rfl⟩
abbrev main_v61 : Ref sig .tc := ⟨.hbm, 192, rfl⟩
abbrev main_v62 : Ref sig .tc := ⟨.hbm, 193, rfl⟩
abbrev main_cst_11 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_v72 : Ref sig .tc := ⟨.hbm, 204, rfl⟩
abbrev main_v73 : Ref sig .tc := ⟨.hbm, 205, rfl⟩

abbrev nD : Nat := 1
abbrev τ : Topo := Topo.v7x

variable {F : FTy → Type} [FloatOps F]

abbrev main_while0_count : Scf.Loop 32 := ⟨0#32, 511#32, 1#32⟩
-- ==== Proof.GateDefs.lean ====
/- What the gate kernel computes, named, at any float instance: one step of the gate (the two running averages, the fire
   bit, the two normalised key rows), four steps as one trip of its loop, the averages trip by trip, the rows all trips
   leave, and the projected rows the tail of the kernel stores. -/
module

public import proofs.«01_k».proof.Proof.Gen.KernelIdeal.Skeleton
public import Idealize.ShloMosaic.Lib.Pipeline.FrameBody
public import Idealize.ShloMosaic.Lib.Pointwise.Index

@[expose] public section

set_option maxRecDepth 16384

noncomputable section

namespace Cert.KernelIdeal.Gate

open Idealize.ShloMosaic Idealize.ShloMosaic.TcCoe
open Cert.KernelIdeal.Gen

variable {F : FTy → Type} [FloatOps F]

/-- The length of each row: the root of the sum of squares along the row. -/
def norm (v : FVec F S2x512 .f32) : FVec F S2x1 .f32 :=
  sqrt (shapeCast S2x1 (multiReduction .add [1] S2 (mulf v v) 0x00000000#32 reduces_S2x512_S2 (.inl rfl) rfl) shapeCasts_S2_S2x1)

/-- One step of a running average of the rows `k`. -/
def emaStep (ema k : FVec F S2x512 .f32) : FVec F S2x512 .f32 :=
  addf (mulf (broadcast S2x512 (Scalar.ofBits .f32 0x3F7D8CBB#32)) ema)
    (mulf (broadcast S2x512 (Scalar.ofBits .f32 0x3C1CD154#32)) k)

/-- The rows `k` over their lengths, the length bounded below. -/
def unitRow (k : FVec F S2x512 .f32) : FVec F S2x512 .f32 :=
  divf k (broadcastTo S2x512 (maximumf (norm k) (broadcast S2x1 (Scalar.ofBits .f32 0x358637BD#32))) broadcasts_S2x1_S2x512)

/-- The normalised row weighted by its step's place in the sequence. -/
def unitRowW (tg : BitVec 32) (k : FVec F S2x512 .f32) : FVec F S2x512 .f32 :=
  mulf (broadcast S2x512 (Scalar.divf (Scalar.sitofp .f32 (Scalar.addi tg 1#32)) (Scalar.ofBits .f32 0x44000000#32))) (unitRow k)

/-- Which rows leave their running average by more than the threshold. -/
def leaves (k ema : FVec F S2x512 .f32) : IVec S2x1 1 :=
  cmpf .oge (norm (subf k ema)) (mulf (broadcast S2x1 (Scalar.ofBits .f32 0x3F333333#32)) (norm k))

/-- The fire bits of step `tg`, as floats; none at the padded step. -/
def fireStep (tg : BitVec 32) (ks ke es ee : FVec F S2x512 .f32) : FVec F S2x1 .f32 :=
  Scalar.select (Scalar.cmpi .slt tg 511#32)
    (sitofp .f32 (extui 32 (ori (leaves ks es) (leaves ke ee)) natLt_1_32))
    (broadcast S2x1 (Scalar.ofBits .f32 0x00000000#32))

/-- The four steps' rows within a trip's block: the semantic half, -/
abbrev ks0 (b : Vec F S8x1024 .f32) : FVec F S2x512 .f32 := extractStridedSlice S2x512 ![0, 0] b slices_S8x1024_o0_0_S2x512
abbrev ks1 (b : Vec F S8x1024 .f32) : FVec F S2x512 .f32 := extractStridedSlice S2x512 ![2, 0] b slices_S8x1024_o2_0_S2x512
abbrev ks2 (b : Vec F S8x1024 .f32) : FVec F S2x512 .f32 := extractStridedSlice S2x512 ![4, 0] b slices_S8x1024_o4_0_S2x512
abbrev ks3 (b : Vec F S8x1024 .f32) : FVec F S2x512 .f32 := extractStridedSlice S2x512 ![6, 0] b slices_S8x1024_o6_0_S2x512
/-- and the episodic half. -/
abbrev ke0 (b : Vec F S8x1024 .f32) : FVec F S2x512 .f32 := extractStridedSlice S2x512 ![0, 512] b slices_S8x1024_o0_512_S2x512
abbrev ke1 (b : Vec F S8x1024 .f32) : FVec F S2x512 .f32 := extractStridedSlice S2x512 ![2, 512] b slices_S8x1024_o2_512_S2x512
abbrev ke2 (b : Vec F S8x1024 .f32) : FVec F S2x512 .f32 := extractStridedSlice S2x512 ![4, 512] b slices_S8x1024_o4_512_S2x512
abbrev ke3 (b : Vec F S8x1024 .f32) : FVec F S2x512 .f32 := extractStridedSlice S2x512 ![6, 512] b slices_S8x1024_o6_512_S2x512

/-- The averages after 1, 2, 3, 4 steps of a trip entered at average `e`, from the four steps' rows. -/
abbrev ema1 (e k0 : FVec F S2x512 .f32) : FVec F S2x512 .f32 := emaStep e k0
abbrev ema2 (e k0 k1 : FVec F S2x512 .f32) : FVec F S2x512 .f32 := emaStep (emaStep e k0) k1
abbrev ema3 (e k0 k1 k2 : FVec F S2x512 .f32) : FVec F S2x512 .f32 := emaStep (emaStep (emaStep e k0) k1) k2

/-- A trip leaves these averages, -/
def tripEmaS (b : Vec F S8x1024 .f32) (e : Vec F S2x512 .f32) : Vec F S2x512 .f32 :=
  shapeCast S2x512 (emaStep (ema3 e (ks0 b) (ks1 b) (ks2 b)) (ks3 b)) shapeCasts_S2x512_S2x512
def tripEmaE (b : Vec F S8x1024 .f32) (e : Vec F S2x512 .f32) : Vec F S2x512 .f32 :=
  shapeCast S2x512 (emaStep (ema3 e (ke0 b) (ke1 b) (ke2 b)) (ke3 b)) shapeCasts_S2x512_S2x512

/-- The number of trip `k`'s step `j` in the sequence, as the kernel counts. -/
def stepNo (k : Fin k0_t1_loop.trips) (j : BitVec 32) : BitVec 32 := Scalar.addi (Scalar.muli 4#32 (Scf.iv 0#32 1#32 k)) j

/-- these normalised rows, -/
def tripKinS (b : Vec F S8x1024 .f32) : Vec F S8x512 .f32 :=
  shapeCast S8x512 (concatenate S8x512 0 [⟨S2x512, unitRow (ks0 b)⟩, ⟨S2x512, unitRow (ks1 b)⟩, ⟨S2x512, unitRow (ks2 b)⟩, ⟨S2x512, unitRow (ks3 b)⟩]
    concatenates_S2x512_S2x512_S2x512_S2x512_S8x512_d0) shapeCasts_S8x512_S8x512
def tripKinE (k : Fin k0_t1_loop.trips) (b : Vec F S8x1024 .f32) : Vec F S8x512 .f32 :=
  shapeCast S8x512 (concatenate S8x512 0 [⟨S2x512, unitRowW (stepNo k 0#32) (ke0 b)⟩, ⟨S2x512, unitRowW (stepNo k 1#32) (ke1 b)⟩,
      ⟨S2x512, unitRowW (stepNo k 2#32) (ke2 b)⟩, ⟨S2x512, unitRowW (stepNo k 3#32) (ke3 b)⟩]
    concatenates_S2x512_S2x512_S2x512_S2x512_S8x512_d0) shapeCasts_S8x512_S8x512

/-- and these fire bits. -/
def tripFire (k : Fin k0_t1_loop.trips) (b : Vec F S8x1024 .f32) (es ee : Vec F S2x512 .f32) : Vec F S8x1 .f32 :=
  concatenate S8x1 0
    [⟨S2x1, fireStep (stepNo k 0#32) (ks0 b) (ke0 b) es ee⟩,
     ⟨S2x1, fireStep (stepNo k 1#32) (ks1 b) (ke1 b) (ema1 es (ks0 b)) (ema1 ee (ke0 b))⟩,
     ⟨S2x1, fireStep (stepNo k 2#32) (ks2 b) (ke2 b) (ema2 es (ks0 b) (ks1 b)) (ema2 ee (ke0 b) (ke1 b))⟩,
     ⟨S2x1, fireStep (stepNo k 3#32) (ks3 b) (ke3 b) (ema3 es (ks0 b) (ks1 b) (ks2 b)) (ema3 ee (ke0 b) (ke1 b) (ke2 b))⟩]
    concatenates_S2x1_S2x1_S2x1_S2x1_S8x1_d0

/-- The rectangles a trip touches: its eight rows of the projected keys, of the normalised rows, of the fire bits. -/
abbrev rK (k : Fin k0_t1_loop.trips) : Rect S1024x1024 := Rect.unit (s := S1024x1024) (k0_off1 k) S8x1024.size (k0_off1_inb k)
abbrev rN (k : Fin k0_t1_loop.trips) : Rect S1024x512 := Rect.unit (s := S1024x512) (k0_off2 k) S8x512.size (k0_off2_inb k)
abbrev rF (k : Fin k0_t1_loop.trips) : Rect S1024x1 := Rect.unit (s := S1024x1) (k0_off3 k) S8x1.size (k0_off3_inb k)

/-- Trip `k`'s block of the projected keys. -/
def blk (kk : Vec F S1024x1024 .f32) (k : Fin k0_t1_loop.trips) : Vec F S8x1024 .f32 := View.ld kk (rK k)

/-- The zero average the loop starts from. -/
def ema0 : Vec F S2x512 .f32 := shapeCast S2x512 (broadcast S2x512 (Scalar.ofBits .f32 0x00000000#32)) shapeCasts_S2x512_S2x512

/-- The two averages before trip `n`. -/
def emaS (kk : Vec F S1024x1024 .f32) : ℕ → Vec F S2x512 .f32
  | 0 => ema0
  | n + 1 => if h : n < k0_t1_loop.trips then tripEmaS (blk kk ⟨n, h⟩) (emaS kk n) else emaS kk n
def emaE (kk : Vec F S1024x1024 .f32) : ℕ → Vec F S2x512 .f32
  | 0 => ema0
  | n + 1 => if h : n < k0_t1_loop.trips then tripEmaE (blk kk ⟨n, h⟩) (emaE kk n) else emaE kk n

theorem emaS_succ (kk : Vec F S1024x1024 .f32) (k : Fin k0_t1_loop.trips) :
    emaS kk (k.val + 1) = tripEmaS (blk kk k) (emaS kk k.val) := by
  rw [emaS]; exact dif_pos k.isLt
theorem emaE_succ (kk : Vec F S1024x1024 .f32) (k : Fin k0_t1_loop.trips) :
    emaE kk (k.val + 1) = tripEmaE (blk kk k) (emaE kk k.val) := by
  rw [emaE]; exact dif_pos k.isLt

theorem trips_eq : k0_t1_loop.trips = 128 := by decide +kernel

/-- The trip that writes row `n`, and the row's place in it. -/
def tripOf (n : Fin 1024) : Fin k0_t1_loop.trips := ⟨n.val / 8, by rw [trips_eq]; omega⟩
def rowOf (n : Fin 1024) : Fin 8 := ⟨n.val % 8, by omega⟩

/-- The rows all trips leave. -/
def kinS (kk : Vec F S1024x1024 .f32) : Vec F S1024x512 .f32 := fun y =>
  tripKinS (blk kk (tripOf (y 0))) (ix2 (rowOf (y 0)) (y 1))
def kinE (kk : Vec F S1024x1024 .f32) : Vec F S1024x512 .f32 := fun y =>
  tripKinE (tripOf (y 0)) (blk kk (tripOf (y 0))) (ix2 (rowOf (y 0)) (y 1))
def fire (kk : Vec F S1024x1024 .f32) : Vec F S1024x1 .f32 := fun y =>
  tripFire (tripOf (y 0)) (blk kk (tripOf (y 0))) (emaS kk ((y 0).val / 8)) (emaE kk ((y 0).val / 8)) (ix2 (rowOf (y 0)) (y 1))

/-! ## The whole kernel: the projected keys, the rows, the input projection -/

/-- The projected keys: the hidden rows against the key weights. -/
def keys (x0 x1 : Vec F S1024x1024 .f32) : Vec F S1024x1024 .f32 :=
  shapeCast S1024x1024 (matmul dot_S1024x1024_S1024x1024_S1024x1024_1_0_0_1_n_n none
    (shapeCast S1024x1024 x0 shapeCasts_S1024x1024_S1024x1024) (shapeCast S1024x1024 x1 shapeCasts_S1024x1024_S1024x1024)
    (constant S1024x1024 .f32 0x00000000#32)) shapeCasts_S1024x1024_S1024x1024

/-- 256 rows of the normalised keys, the semantic or the episodic by the branch's selector, through the input weights. -/
def chunk (x3 : Vec F S1x1 .f32) (a b : Vec F S256x512 .f32) (x2 : Vec F S512x4096 .bf16) : Vec F S256x4096 .bf16 :=
  truncf .bf16 (matmul dot_S256x512_S512x4096_S256x4096_1_0_0_1_n_n none
    (truncf .bf16 (Scalar.select (Scalar.cmpf .ogt (extractAt ![0, 0] x3 inpos_S1x1_p0_0) (Scalar.ofBits .f32 0x3F000000#32)) a b) bitsLt_bf16_f32)
    (shapeCast S512x4096 x2 shapeCasts_S512x4096_S512x4096)
    (constant S256x4096 .f32 0x00000000#32)) bitsLt_bf16_f32

/-- The `i`-th 256 rows of the normalised keys. -/
def rows (kin : Vec F S1024x512 .f32) (i : Fin 4) : Vec F S256x512 .f32 := fun x =>
  kin (ix2 (⟨256 * i.val + (x 0).val, by have h : (x 0).val < 256 := (x 0).isLt; omega⟩ : Fin 1024) (x 1))

/-- What the gate kernel leaves: the input drive of every row, and the fire bits. -/
def outU (x0 x1 : Vec F S1024x1024 .f32) (x2 : Vec F S512x4096 .bf16) (x3 : Vec F S1x1 .f32) : Vec F S1024x4096 .bf16 := fun y =>
  have h : (y 0).val < 1024 := (y 0).isLt
  chunk x3 (rows (kinS (keys x0 x1)) ⟨(y 0).val / 256, by omega⟩) (rows (kinE (keys x0 x1)) ⟨(y 0).val / 256, by omega⟩) x2
    (ix2 (⟨(y 0).val % 256, by omega⟩ : Fin 256) (y 1))
def outFire (x0 x1 : Vec F S1024x1024 .f32) : Vec F S1024x1 .f32 := fire (keys x0 x1)

end Cert.KernelIdeal.Gate
end
-- ==== Proof.GateTrip.lean ====
/- One trip of the gate kernel's loop, and the loop: from the projected keys and any contents of the result buffers to the
   rows, fire bits and running averages named in GateDefs. -/
module

public import proofs.«01_k».proof.Proof.GateDefs
public import proofs.«01_k».proof.Proof.Gen.KernelIdeal.Launch
public import Idealize.ShloMosaic.Lib.Tactic
public import Idealize.ShloMosaic.Lib.Scf
public import Idealize.ShloMosaic.Lib.WritesUnit
public import Idealize.ShloMosaic.Lib.Pipeline.Value

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD)
  (arg0 : Memref sig .tc .vmem S1024x1024 .f32) (harg0 : arg0.IsWhole)
  (arg1 : Memref sig .tc .vmem S1024x1024 .f32) (harg1 : arg1.IsWhole)
  (arg2 : Memref sig .tc .vmem S512x4096 .bf16) (harg2 : arg2.IsWhole)
  (arg3 : Memref sig .tc .vmem S1x1 .f32) (harg3 : arg3.IsWhole)
  (arg4 : Memref sig .tc .vmem S1024x4096 .bf16) (harg4 : arg4.IsWhole)
  (arg5 : Memref sig .tc .vmem S1024x1 .f32) (harg5 : arg5.IsWhole)
  (arg6 : Memref sig .tc .vmem S1024x1024 .f32) (harg6 : arg6.IsWhole)
  (arg7 : Memref sig .tc .vmem S1024x512 .f32) (harg7 : arg7.IsWhole)
  (arg8 : Memref sig .tc .vmem S1024x512 .f32) (harg8 : arg8.IsWhole)
  (arg9 : Memref sig .tc .vmem S2x512 .f32) (harg9 : arg9.IsWhole)
  (arg10 : Memref sig .tc .vmem S2x512 .f32) (harg10 : arg10.IsWhole)

/-- Eight rows stored from row `8 n` on, the rows below final: the rows below `8 (n + 1)` are final. -/
theorem rows_step {sig : RefSig} {κ : Kind} {sp : Space} {W : ℕ} {e : EltTy} (v : View sig κ sp (⟨2, ![1024, W]⟩ : Shape) e)
    (f : v.ty.Contents (Elt F)) (off : Fin 2 → ℕ) (n : ℕ) (hoff : off = ![8 * n, 0])
    (inb : ∀ a : Fin 2, off a + (![8, W] : Fin 2 → ℕ) a ≤ (![1024, W] : Fin 2 → ℕ) a)
    (w : (⟨2, ![8, W]⟩ : Shape).Idx → Elt F e) (spec : (⟨2, ![1024, W]⟩ : Shape).Idx → Elt F e)
    (hlow : ∀ y : (⟨2, ![1024, W]⟩ : Shape).Idx, (y 0).val < 8 * n → v.read (Elt F) f y = spec y)
    (hrow : ∀ (r : Fin 8) (x : Fin W) (y : (⟨2, ![1024, W]⟩ : Shape).Idx), (y 0).val = 8 * n + r.val → y 1 = x → w (ix2 r x) = spec y)
    (y : (⟨2, ![1024, W]⟩ : Shape).Idx) (hy : (y 0).val < 8 * (n + 1)) :
    v.read (Elt F) (v.writes (Elt F) f [⟨Rect.unit (s := ⟨2, ![1024, W]⟩) off ![8, W] inb, w⟩]) y = spec y := by
  by_cases h : (y 0).val < 8 * n
  · exact (View.read_writes_cons_rows_of_not_mem v f inb w [] y hoff rfl (Or.inl h)).trans (hlow y h)
  · have hr : (y 0).val - 8 * n < 8 := by omega
    refine (View.read_writes_cons_rows_of_mem v f inb w [] y (ix2 ⟨(y 0).val - 8 * n, hr⟩ (y 1)) hoff ?_ rfl).trans
      (hrow _ _ y ?_ rfl)
    · show (y 0).val = 8 * n + ((y 0).val - 8 * n)
      omega
    · show (y 0).val = 8 * n + ((y 0).val - 8 * n)
      omega

/-- The trip and the place of a row `8 k + r`. -/
theorem tripOf_eq (k : Fin k0_t1_loop.trips) (r : Fin 8) (n : Fin 1024) (h : n.val = 8 * k.val + r.val) : tripOf n = k :=
  Fin.ext (by show n.val / 8 = k.val; omega)
theorem rowOf_eq (k : Fin k0_t1_loop.trips) (r : Fin 8) (n : Fin 1024) (h : n.val = 8 * k.val + r.val) : rowOf n = r :=
  Fin.ext (by show n.val % 8 = r.val; omega)

theorem kinS_row (kk : Vec F S1024x1024 .f32) (k : Fin k0_t1_loop.trips) (r : Fin 8) (x : Fin 512) (y : S1024x512.Idx)
    (h0 : (y 0).val = 8 * k.val + r.val) (h1 : y 1 = x) : tripKinS (blk kk k) (ix2 r x) = kinS kk y := by
  unfold kinS; rw [tripOf_eq k r _ h0, rowOf_eq k r _ h0, h1]
theorem kinE_row (kk : Vec F S1024x1024 .f32) (k : Fin k0_t1_loop.trips) (r : Fin 8) (x : Fin 512) (y : S1024x512.Idx)
    (h0 : (y 0).val = 8 * k.val + r.val) (h1 : y 1 = x) : tripKinE k (blk kk k) (ix2 r x) = kinE kk y := by
  unfold kinE; rw [tripOf_eq k r _ h0, rowOf_eq k r _ h0, h1]
theorem fire_row (kk : Vec F S1024x1024 .f32) (k : Fin k0_t1_loop.trips) (r : Fin 8) (x : Fin 1) (y : S1024x1.Idx)
    (h0 : (y 0).val = 8 * k.val + r.val) (h1 : y 1 = x) :
    tripFire k (blk kk k) (emaS kk k.val) (emaE kk k.val) (ix2 r x) = fire kk y := by
  have hd : (y 0).val / 8 = k.val := by omega
  unfold fire; rw [tripOf_eq k r _ h0, rowOf_eq k r _ h0, h1, hd]

/-- Before trip `n`: the projected keys in place, the running averages those of the steps before, the rows below `8 n` final. -/
def GInv (kk : Vec F S1024x1024 .f32) (n : ℕ) (_ : PUnit) : sProp 𝕄 :=
  iprop(owns (c : Thread nD τ) arg6 fullShare kk
    ∗ owns (c : Thread nD τ) arg9 fullShare (emaS kk n) ∗ owns (c : Thread nD τ) arg10 fullShare (emaE kk n)
    ∗ (∃ f, ⌜∀ y : S1024x512.Idx, (y 0).val < 8 * n → arg7.view.read (Elt F) f y = kinS kk y⌝ ∗ (arg7.view.loc (c : Thread nD τ) ↦[arg7.view.set]{fullShare} f))
    ∗ (∃ f, ⌜∀ y : S1024x512.Idx, (y 0).val < 8 * n → arg8.view.read (Elt F) f y = kinE kk y⌝ ∗ (arg8.view.loc (c : Thread nD τ) ↦[arg8.view.set]{fullShare} f))
    ∗ (∃ f, ⌜∀ y : S1024x1.Idx, (y 0).val < 8 * n → arg5.view.read (Elt F) f y = fire kk y⌝ ∗ (arg5.view.loc (c : Thread nD τ) ↦[arg5.view.set]{fullShare} f)))

/-- Offsets written `![0, 0]` are the zero offsets. -/
theorem zz : (![0, 0] : Fin 2 → ℕ) = fun _ => 0 := by funext a; fin_cases a <;> rfl

set_option maxHeartbeats 4000000 in
/-- Trip `k` takes the state before it to the state before the next. -/
theorem trip (kk : Vec F S1024x1024 .f32) (E : Set ℕ) (k : Fin k0_t1_loop.trips) (u : PUnit) :
    GInv c arg5 arg6 arg7 arg8 arg9 arg10 kk k.val u
      ⊢ wp frame (wpE (defs₀ (F := F)) Variants.none (c : Thread nD τ) none) E
          (k0_t1_body (F := F) arg0 harg0 arg1 harg1 arg2 harg2 arg3 harg3 arg4 harg4 arg5 harg5 arg6 harg6 arg7 harg7 arg8 harg8 arg9 harg9 arg10 harg10 k u) (GInv c arg5 arg6 arg7 arg8 arg9 arg10 kk (k.val + 1)) := by
  have hk : k.val < 128 := Nat.lt_of_lt_of_le k.isLt k0_t1_abs.2.1
  unfold GInv k0_t1_body owns
  iintro ⟨⟨%f6, %hf6, H6⟩, ⟨%f9, %hf9, H9⟩, ⟨%f10, %hf10, H10⟩, ⟨%f7, %hf7, H7⟩, ⟨%f8, %hf8, H8⟩, ⟨%f5, %hf5, H5⟩⟩
  obtain rfl := harg6.eq_unread hf6; obtain rfl := harg9.eq_unread hf9; obtain rfl := harg10.eq_unread hf10
  sl_exec
  sl_step
  -- the three loads the trip's values rest on
  have eb : View.readAt (Elt F) arg6.view (rK k).toLoadRect (harg6.unread kk) = blk kk k :=
    congrArg (fun X => View.ld X (rK k)) hf6
  have es : View.readAt (Elt F) arg9.view (Rect.unit (s := S2x512) ![0, 0] S2x512.size inb_S2x512_S2x512_0_0).toLoadRect
      (harg9.unread (emaS kk k.val)) = emaS kk k.val :=
    (congrArg (fun X => View.ld X (Rect.unit (s := S2x512) ![0, 0] S2x512.size inb_S2x512_S2x512_0_0)) hf9).trans
      (View.ld_unit_zero zz inb_S2x512_S2x512_0_0 _)
  have ee : View.readAt (Elt F) arg10.view (Rect.unit (s := S2x512) ![0, 0] S2x512.size inb_S2x512_S2x512_0_0).toLoadRect
      (harg10.unread (emaE kk k.val)) = emaE kk k.val :=
    (congrArg (fun X => View.ld X (Rect.unit (s := S2x512) ![0, 0] S2x512.size inb_S2x512_S2x512_0_0)) hf10).trans
      (View.ld_unit_zero zz inb_S2x512_S2x512_0_0 _)
  isplitl [H6]
  · iexists _; isplitr; · ipureintro; exact harg6.read_unread _
    iexact H6
  isplitl [H9]
  · iexists _; isplitr; swap; · iexact H9
    ipureintro
    refine (View.read_writes_eq_canon _ _ _ (fun y => ⟨_, List.mem_singleton.mpr rfl, View.mem_set_unit_zero zz inb_S2x512_S2x512_0_0 y⟩)).trans
      ((View.canon_cons_unit_zero zz _ _ _).trans ?_)
    rw [emaS_succ, ← eb, ← es]
    sl_kernel_rfl
  isplitl [H10]
  · iexists _; isplitr; swap; · iexact H10
    ipureintro
    refine (View.read_writes_eq_canon _ _ _ (fun y => ⟨_, List.mem_singleton.mpr rfl, View.mem_set_unit_zero zz inb_S2x512_S2x512_0_0 y⟩)).trans
      ((View.canon_cons_unit_zero zz _ _ _).trans ?_)
    rw [emaE_succ, ← eb, ← ee]
    sl_kernel_rfl
  isplitl [H7]
  · iexists _; isplitr; swap; · iexact H7
    ipureintro
    refine rows_step arg7.view f7 (k0_off2 k) k.val (k0_off2_eq k) (k0_off2_inb k) _ (kinS kk) hf7 fun r x y h0 h1 =>
      Eq.trans (congrFun ?_ (ix2 r x)) (kinS_row kk k r x y h0 h1)
    rw [← eb]
    sl_kernel_rfl
  isplitl [H8]
  · iexists _; isplitr; swap; · iexact H8
    ipureintro
    refine rows_step arg8.view f8 (k0_off2 k) k.val (k0_off2_eq k) (k0_off2_inb k) _ (kinE kk) hf8 fun r x y h0 h1 =>
      Eq.trans (congrFun ?_ (ix2 r x)) (kinE_row kk k r x y h0 h1)
    rw [← eb]
    sl_kernel_rfl
  iexists _; isplitr; swap; · iexact H5
  ipureintro
  refine rows_step arg5.view f5 (k0_off3 k) k.val (k0_off3_eq k) (k0_off3_inb k) _ (fire kk) hf5 fun r x y h0 h1 =>
      Eq.trans (congrFun ?_ (ix2 r x)) (fire_row kk k r x y h0 h1)
  rw [← eb, ← es, ← ee]
  sl_kernel_rfl

end Cert.KernelIdeal.Gate
end
-- ==== Proof.GateBody.lean ====
/- The gate kernel's body, whole: from its four operands to the input drive and the fire bits named in GateDefs. -/
module

public import proofs.«01_k».proof.Proof.GateTrip
public import proofs.«01_k».proof.Proof.Gen.KernelIdeal.Launch
public import Idealize.ShloMosaic.Lib.Tactic
public import Idealize.ShloMosaic.Lib.Scf
public import Idealize.ShloMosaic.Lib.WritesUnit
public import Idealize.ShloMosaic.Lib.Pipeline.Value

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD)
  (arg0 : Memref sig .tc .vmem S1024x1024 .f32) (harg0 : arg0.IsWhole)
  (arg1 : Memref sig .tc .vmem S1024x1024 .f32) (harg1 : arg1.IsWhole)
  (arg2 : Memref sig .tc .vmem S512x4096 .bf16) (harg2 : arg2.IsWhole)
  (arg3 : Memref sig .tc .vmem S1x1 .f32) (harg3 : arg3.IsWhole)
  (arg4 : Memref sig .tc .vmem S1024x4096 .bf16) (harg4 : arg4.IsWhole)
  (arg5 : Memref sig .tc .vmem S1024x1 .f32) (harg5 : arg5.IsWhole)
  (arg6 : Memref sig .tc .vmem S1024x1024 .f32) (harg6 : arg6.IsWhole)
  (arg7 : Memref sig .tc .vmem S1024x512 .f32) (harg7 : arg7.IsWhole)
  (arg8 : Memref sig .tc .vmem S1024x512 .f32) (harg8 : arg8.IsWhole)
  (arg9 : Memref sig .tc .vmem S2x512 .f32) (harg9 : arg9.IsWhole)
  (arg10 : Memref sig .tc .vmem S2x512 .f32) (harg10 : arg10.IsWhole)

/-- The `i`-th 256 rows, read off contents that are the named ones. -/
theorem ld_rows (kin : Vec F S1024x512 .f32) (o : ℕ) (i : Fin 4) (ho : o = 256 * i.val)
    (inb : ∀ a : Fin 2, (![o, 0] : Fin 2 → ℕ) a + S256x512.size a ≤ S1024x512.size a) :
    View.ld kin (Rect.unit (s := S1024x512) ![o, 0] S256x512.size inb) = rows kin i := by
  subst ho
  rw [View.ld_unit]
  funext x
  unfold rows extractStridedSlice
  refine congrArg kin (funext fun a => ?_)
  fin_cases a
  · rfl
  · exact Fin.ext (Nat.zero_add _)

/-- The same for a load of a buffer holding the rows. -/
theorem readAt_rows {arg : Memref sig .tc .vmem S1024x512 .f32} (harg : arg.IsWhole) (kin : Vec F S1024x512 .f32) (o : ℕ) (i : Fin 4)
    (ho : o = 256 * i.val) (inb : ∀ a : Fin 2, (![o, 0] : Fin 2 → ℕ) a + S256x512.size a ≤ S1024x512.size a) :
    View.readAt (Elt F) arg.view (Rect.unit (s := S1024x512) ![o, 0] S256x512.size inb).toLoadRect (harg.unread kin) = rows kin i :=
  (congrArg (fun X => View.ld X (Rect.unit (s := S1024x512) ![o, 0] S256x512.size inb)) (harg.read_unread _)).trans
    (ld_rows kin o i ho inb)

/-- Reading the four stores of 256 rows each: the row's own chunk. -/
theorem read_chunks {sig : RefSig} {κ : Kind} {sp : Space} (v : View sig κ sp S1024x4096 .bf16) (f : v.ty.Contents (Elt F))
    (i0 : ∀ a, (![0, 0] : Fin 2 → ℕ) a + S256x4096.size a ≤ S1024x4096.size a)
    (i1 : ∀ a, (![256, 0] : Fin 2 → ℕ) a + S256x4096.size a ≤ S1024x4096.size a)
    (i2 : ∀ a, (![512, 0] : Fin 2 → ℕ) a + S256x4096.size a ≤ S1024x4096.size a)
    (i3 : ∀ a, (![768, 0] : Fin 2 → ℕ) a + S256x4096.size a ≤ S1024x4096.size a)
    (w : Fin 4 → Vec F S256x4096 .bf16) (y : S1024x4096.Idx) (i : Fin 4) (r : Fin 256) (h : (y 0).val = 256 * i.val + r.val) :
    v.read (Elt F) (v.writes (Elt F) f
      [⟨Rect.unit (s := S1024x4096) ![768, 0] S256x4096.size i3, w 3⟩, ⟨Rect.unit (s := S1024x4096) ![512, 0] S256x4096.size i2, w 2⟩,
       ⟨Rect.unit (s := S1024x4096) ![256, 0] S256x4096.size i1, w 1⟩, ⟨Rect.unit (s := S1024x4096) ![0, 0] S256x4096.size i0, w 0⟩]) y
      = w i (ix2 r (y 1)) := by
  have e : ∀ (o : ℕ) (ib : ∀ a, (![o, 0] : Fin 2 → ℕ) a + S256x4096.size a ≤ S1024x4096.size a) (p : Vec F S256x4096 .bf16)
      (L : List (View.Piece (Elt F) S1024x4096 .bf16)), (y 0).val = o + r.val →
      v.read (Elt F) (v.writes (Elt F) f ((⟨Rect.unit (s := S1024x4096) ![o, 0] S256x4096.size ib, p⟩ : View.Piece (Elt F) S1024x4096 .bf16) :: L)) y
        = p (ix2 r (y 1)) :=
    fun o ib p L ho => View.read_writes_cons_rows_of_mem v f ib p L y (ix2 r (y 1)) rfl ho rfl
  have n : ∀ (o : ℕ) (ib : ∀ a, (![o, 0] : Fin 2 → ℕ) a + S256x4096.size a ≤ S1024x4096.size a) (p : Vec F S256x4096 .bf16)
      (L : List (View.Piece (Elt F) S1024x4096 .bf16)), (y 0).val < o →
      v.read (Elt F) (v.writes (Elt F) f ((⟨Rect.unit (s := S1024x4096) ![o, 0] S256x4096.size ib, p⟩ : View.Piece (Elt F) S1024x4096 .bf16) :: L)) y
        = v.read (Elt F) (v.writes (Elt F) f L) y :=
    fun o ib p L ho => View.read_writes_cons_rows_of_not_mem v f ib p L y rfl rfl (Or.inl ho)
  have hr := r.isLt
  fin_cases i
  · have h' : (y 0).val = 0 + r.val := h
    rw [n 768 i3 _ _ (by omega), n 512 i2 _ _ (by omega), n 256 i1 _ _ (by omega)]
    exact e 0 i0 _ _ h'
  · have h' : (y 0).val = 256 + r.val := h
    rw [n 768 i3 _ _ (by omega), n 512 i2 _ _ (by omega)]
    exact e 256 i1 _ _ h'
  · have h' : (y 0).val = 512 + r.val := h
    rw [n 768 i3 _ _ (by omega)]
    exact e 512 i2 _ _ h'
  · exact e 768 i3 _ _ h

set_option maxHeartbeats 4000000 in
/-- The body's triple: the operands kept, the two results at their named values, the scratch at some contents. -/
theorem body (x0 x1 : Vec F S1024x1024 .f32) (x2 : Vec F S512x4096 .bf16) (x3 : Vec F S1x1 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (outU x0 x1 x2 x3) ∗ owns (c : Thread nD τ) arg5 fullShare (outFire x0 x1) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E (cc0_esn_gate (F := F) arg0 harg0 arg1 harg1 arg2 harg2 arg3 harg3 arg4 harg4 arg5 harg5 arg6 harg6 arg7 harg7 arg8 harg8 arg9 harg9 arg10 harg10) K := by
  simp only [cc0_esn_gate_eq_skeleton]; unfold cc0_esn_gate_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg0.eq_unread hf0; obtain rfl := harg1.eq_unread hf1; obtain rfl := harg2.eq_unread hf2; obtain rfl := harg3.eq_unread hf3
  have e0 : View.readAt (Elt F) arg0.view (Rect.unit (s := S1024x1024) ![0, 0] S1024x1024.size inb_S1024x1024_S1024x1024_0_0).toLoadRect (harg0.unread x0) = x0 :=
    (congrArg (fun X => View.ld X (Rect.unit (s := S1024x1024) ![0, 0] S1024x1024.size inb_S1024x1024_S1024x1024_0_0)) hf0).trans (View.ld_unit_zero zz inb_S1024x1024_S1024x1024_0_0 _)
  have e1 : View.readAt (Elt F) arg1.view (Rect.unit (s := S1024x1024) ![0, 0] S1024x1024.size inb_S1024x1024_S1024x1024_0_0).toLoadRect (harg1.unread x1) = x1 :=
    (congrArg (fun X => View.ld X (Rect.unit (s := S1024x1024) ![0, 0] S1024x1024.size inb_S1024x1024_S1024x1024_0_0)) hf1).trans (View.ld_unit_zero zz inb_S1024x1024_S1024x1024_0_0 _)
  have e2 : View.readAt (Elt F) arg2.view (Rect.unit (s := S512x4096) ![0, 0] S512x4096.size inb_S512x4096_S512x4096_0_0).toLoadRect (harg2.unread x2) = x2 :=
    (congrArg (fun X => View.ld X (Rect.unit (s := S512x4096) ![0, 0] S512x4096.size inb_S512x4096_S512x4096_0_0)) hf2).trans (View.ld_unit_zero zz inb_S512x4096_S512x4096_0_0 _)
  have e3 : View.readAt (Elt F) arg3.view (Rect.unit (s := S1x1) ![0, 0] S1x1.size inb_S1x1_S1x1_0_0).toLoadRect (harg3.unread x3) = x3 :=
    (congrArg (fun X => View.ld X (Rect.unit (s := S1x1) ![0, 0] S1x1.size inb_S1x1_S1x1_0_0)) hf3).trans (View.ld_unit_zero zz inb_S1x1_S1x1_0_0 _)
  sl_exec
  sl_for (GInv c arg5 arg6 arg7 arg8 arg9 arg10 (keys x0 x1)) $$ [H5 H6 H7 H8 H9 H10]
  · intro k acc
    exact trip c arg0 harg0 arg1 harg1 arg2 harg2 arg3 harg3 arg4 harg4 arg5 harg5 arg6 harg6 arg7 harg7 arg8 harg8 arg9 harg9 arg10 harg10 (keys x0 x1) E k acc
  · unfold GInv owns
    isplitl [H6]
    · iexists _; isplitr; swap; · iexact H6
      ipureintro
      refine (View.read_writes_eq_canon _ _ _ (fun y => ⟨_, List.mem_singleton.mpr rfl, View.mem_set_unit_zero zz inb_S1024x1024_S1024x1024_0_0 y⟩)).trans
        ((View.canon_cons_unit_zero zz _ _ _).trans ?_)
      sl_kernel_rfl
    isplitl [H9]
    · iexists _; isplitr; swap; · iexact H9
      ipureintro
      refine (View.read_writes_eq_canon _ _ _ (fun y => ⟨_, List.mem_singleton.mpr rfl, View.mem_set_unit_zero zz inb_S2x512_S2x512_0_0 y⟩)).trans
        ((View.canon_cons_unit_zero zz _ _ _).trans ?_)
      sl_kernel_rfl
    isplitl [H10]
    · iexists _; isplitr; swap; · iexact H10
      ipureintro
      refine (View.read_writes_eq_canon _ _ _ (fun y => ⟨_, List.mem_singleton.mpr rfl, View.mem_set_unit_zero zz inb_S2x512_S2x512_0_0 y⟩)).trans
        ((View.canon_cons_unit_zero zz _ _ _).trans ?_)
      sl_kernel_rfl
    isplitl [H7]
    · iexists _; isplitr; swap; · iexact H7
      ipureintro; intro y hy; omega
    isplitl [H8]
    · iexists _; isplitr; swap; · iexact H8
      ipureintro; intro y hy; omega
    iexists _; isplitr; swap; · iexact H5
    ipureintro; intro y hy; omega
  · unfold GInv owns
    iintro %acc ⟨⟨%g6, %hg6, H6⟩, ⟨%g9, %hg9, H9⟩, ⟨%g10, %hg10, H10⟩, ⟨%g7, %hg7, H7⟩, ⟨%g8, %hg8, H8⟩, ⟨%g5, %hg5, H5⟩⟩
    have ht : Scf.trips k0_t1_loop.lb k0_t1_loop.ub k0_t1_loop.st = 128 := trips_eq
    rw [ht] at hg7 hg8 hg5
    obtain rfl := harg7.eq_unread (funext fun y => hg7 y (show (y 0).val < 1024 from (y 0).isLt))
    obtain rfl := harg8.eq_unread (funext fun y => hg8 y (show (y 0).val < 1024 from (y 0).isLt))
    have hf5 : arg5.view.read (Elt F) g5 = outFire x0 x1 := funext fun y => hg5 y (show (y 0).val < 1024 from (y 0).isLt)
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; swap; · iexact H4
      ipureintro
      unfold body.sl.r body.sl.r_1
      rw [readAt_rows harg7 (kinS (keys x0 x1)) 0 0 rfl inb_S1024x512_S256x512_0_0, readAt_rows harg8 (kinE (keys x0 x1)) 0 0 rfl inb_S1024x512_S256x512_0_0,
        readAt_rows harg7 (kinS (keys x0 x1)) 256 1 rfl inb_S1024x512_S256x512_256_0, readAt_rows harg8 (kinE (keys x0 x1)) 256 1 rfl inb_S1024x512_S256x512_256_0,
        readAt_rows harg7 (kinS (keys x0 x1)) 512 2 rfl inb_S1024x512_S256x512_512_0, readAt_rows harg8 (kinE (keys x0 x1)) 512 2 rfl inb_S1024x512_S256x512_512_0,
        readAt_rows harg7 (kinS (keys x0 x1)) 768 3 rfl inb_S1024x512_S256x512_768_0, readAt_rows harg8 (kinE (keys x0 x1)) 768 3 rfl inb_S1024x512_S256x512_768_0]
      funext y
      have hy : (y 0).val < 1024 := (y 0).isLt
      exact read_chunks arg4.view f4 inb_S1024x4096_S256x4096_0_0 inb_S1024x4096_S256x4096_256_0 inb_S1024x4096_S256x4096_512_0
        inb_S1024x4096_S256x4096_768_0 (fun i => chunk x3 (rows (kinS (keys x0 x1)) i) (rows (kinE (keys x0 x1)) i) x2) y
        ⟨(y 0).val / 256, by omega⟩ ⟨(y 0).val % 256, by omega⟩ (by show (y 0).val = 256 * ((y 0).val / 256) + (y 0).val % 256; omega)
    isplitl [H5]
    · iexists _; isplitr; · ipureintro; exact hf5
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact H10
    ipureintro; rfl

end Cert.KernelIdeal.Gate
end
-- ==== Proof.Bodies.lean ====
/- The reservoir kernel's body at any grid point, and the output kernel's body: their triples, whole. -/
module

public import proofs.«01_k».proof.Proof.GateTrip
public import proofs.«01_k».proof.Proof.Gen.KernelIdeal.Launch
public import Idealize.ShloMosaic.Lib.Tactic
public import Idealize.ShloMosaic.Lib.Scf
public import Idealize.ShloMosaic.Lib.WritesUnit
public import Idealize.ShloMosaic.Lib.Pipeline.Value

@[expose] public section

set_option maxRecDepth 16384

noncomputable section

namespace Cert.KernelIdeal.Resv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Cert.KernelIdeal.Gate (zz)

/-- The zero state the scan starts from. -/
def h0 : Vec F S2x4096 .f32 := k2_pay1

/-- One step of the reservoir: the new state where the row fires, else the old. -/
def step (h : Vec F S2x4096 .f32) (w : Vec F S4096x4096 .bf16) (u : Vec F S1x2x4096 .bf16) (f : Vec F S1x2x1 .f32) : Vec F S2x4096 .f32 :=
  k2_pay2 h w u f

/-- The two conditions on the grid point: the first, the last. -/
abbrev isFirst (i : grid2.Coords) : Prop := (Scalar.cmpi .ne (Scalar.extui (Scalar.cmpi .eq (BitVec.ofNat 32 (i 0).val) 0#32)) 0#32) = 1#1
abbrev isLast (i : grid2.Coords) : Prop := k2_cond2 i = 1#1

theorem zz3 : (![0, 0, 0] : Fin 3 → ℕ) = fun _ => 0 := by decide

omit [FloatOps F] in
/-- Loading a whole buffer gives what it reads. -/
theorem ld_whole {κ : Kind} {sp : Space} {S : Shape} {t : EltTy} {v : View sig κ sp S t} {off : Fin S.rank → ℕ} (h0 : off = fun _ => 0) (inb) (f : v.ty.Contents (Elt F)) {x : Vec F S t}
    (hx : View.read (Elt F) v f = x) : View.readAt (Elt F) v (Rect.unit (s := S) off S.size inb).toLoadRect f = x :=
  (View.ld_unit_zero h0 inb _).trans hx

section
variable (c : Dev nD) (i : grid2.Coords) (arg1 : Memref sig .tc .vmem S4096x4096 .bf16) (harg1 : arg1.IsWhole) (arg2 : Memref sig .tc .vmem S1x2x4096 .bf16) (harg2 : arg2.IsWhole)
  (arg3 : Memref sig .tc .vmem S1x2x1 .f32) (harg3 : arg3.IsWhole) (arg4 : Memref sig .tc .vmem S2x4096 .f32) (harg4 : arg4.IsWhole) (arg5 : Memref sig .tc .vmem S2x4096 .f32) (harg5 : arg5.IsWhole)

set_option maxHeartbeats 4000000 in
/-- At the first point: the state becomes one step from zero, whatever it was. -/
theorem body_first (hc0 : isFirst i) (hc1 : ¬isLast i)
    (x1 : Vec F S4096x4096 .bf16) (x2 : Vec F S1x2x4096 .bf16) (x3 : Vec F S1x2x1 .f32) (d4 : Vec F S2x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare d4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare d4 ∗ owns (c : Thread nD τ) arg5 fullShare (step h0 x1 x2 x3)) -∗ K ⟨⟩))
      ⊢ wp frame (wpE (defs₀ (F := F)) Variants.none (c : Thread nD τ) none) E
          (cc2_esn_reservoir (F := F) i arg1 harg1 arg2 harg2 arg3 harg3 arg4 harg4 arg5 harg5) K := by
  have e1 : View.readAt (Elt F) arg1.view (Rect.unit (s := S4096x4096) ![0, 0] S4096x4096.size inb_S4096x4096_S4096x4096_0_0).toLoadRect (harg1.unread x1) = x1 := ld_whole zz _ _ (harg1.read_unread x1)
  have e2 : View.readAt (Elt F) arg2.view (Rect.unit (s := S1x2x4096) ![0, 0, 0] S1x2x4096.size inb_S1x2x4096_S1x2x4096_0_0_0).toLoadRect (harg2.unread x2) = x2 := ld_whole zz3 _ _ (harg2.read_unread x2)
  have e3 : View.readAt (Elt F) arg3.view (Rect.unit (s := S1x2x1) ![0, 0, 0] S1x2x1.size inb_S1x2x1_S1x2x1_0_0_0).toLoadRect (harg3.unread x3) = x3 := ld_whole zz3 _ _ (harg3.read_unread x3)
  simp only [cc2_esn_reservoir_eq_skeleton]; unfold cc2_esn_reservoir_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1; obtain rfl := harg2.eq_unread hf2; obtain rfl := harg3.eq_unread hf3
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro; exact hf4
  iexists _; isplitr; swap; · iexact H5
  ipureintro
  refine (View.read_writes_eq_canon _ _ _ (fun y => ⟨_, List.mem_cons_self .., View.mem_set_unit_zero zz inb_S2x4096_S2x4096_0_0 y⟩)).trans
    ((View.canon_cons_unit_zero zz _ _ _).trans ?_)
  unfold step; try rw [e1, e2, e3]
  refine congrArg (fun a => k2_pay2 a _ _ _) ?_
  refine (View.ld_unit_zero zz inb_S2x4096_S2x4096_0_0 _).trans ?_
  exact (View.read_writes_eq_canon _ _ _ (fun y => ⟨_, List.mem_singleton.mpr rfl, View.mem_set_unit_zero zz inb_S2x4096_S2x4096_0_0 y⟩)).trans (View.canon_cons_unit_zero zz _ _ _)

set_option maxHeartbeats 4000000 in
/-- At a point between: the state steps. -/
theorem body_mid (hc0 : ¬isFirst i) (hc1 : ¬isLast i)
    (x1 : Vec F S4096x4096 .bf16) (x2 : Vec F S1x2x4096 .bf16) (x3 : Vec F S1x2x1 .f32) (h : Vec F S2x4096 .f32) (d4 : Vec F S2x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare d4 ∗ owns (c : Thread nD τ) arg5 fullShare h
        ∗ (iprop(owns (c : Thread nD τ) arg1 fullShare x1 ∗ owns (c : Thread nD τ) arg2 fullShare x2 ∗ owns (c : Thread nD τ) arg3 fullShare x3 ∗ owns (c : Thread nD τ) arg4 fullShare d4 ∗ owns (c : Thread nD τ) arg5 fullShare (step h x1 x2 x3)) -∗ K ⟨⟩))
      ⊢ wp frame (wpE (defs₀ (F := F)) Variants.none (c : Thread nD τ) none) E
          (cc2_esn_reservoir (F := F) i arg1 harg1 arg2 harg2 arg3 harg3 arg4 harg4 arg5 harg5) K := by
  have e1 : View.readAt (Elt F) arg1.view (Rect.unit (s := S4096x4096) ![0, 0] S4096x4096.size inb_S4096x4096_S4096x4096_0_0).toLoadRect (harg1.unread x1) = x1 := ld_whole zz _ _ (harg1.read_unread x1)
  have e2 : View.readAt (Elt F) arg2.view (Rect.unit (s := S1x2x4096) ![0, 0, 0] S1x2x4096.size inb_S1x2x4096_S1x2x4096_0_0_0).toLoadRect (harg2.unread x2) = x2 := ld_whole zz3 _ _ (harg2.read_unread x2)
  have e3 : View.readAt (Elt F) arg3.view (Rect.unit (s := S1x2x1) ![0, 0, 0] S1x2x1.size inb_S1x2x1_S1x2x1_0_0_0).toLoadRect (harg3.unread x3) = x3 := ld_whole zz3 _ _ (harg3.read_unread x3)
  have e5 : View.readAt (Elt F) arg5.view (Rect.unit (s := S2x4096) ![0, 0] S2x4096.size inb_S2x4096_S2x4096_0_0).toLoadRect (harg5.unread h) = h := ld_whole zz _ _ (harg5.read_unread h)
  simp only [cc2_esn_reservoir_eq_skeleton]; unfold cc2_esn_reservoir_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg5.eq_unread hf5
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro; exact hf4
  iexists _; isplitr; swap; · iexact H5
  ipureintro
  refine (View.read_writes_eq_canon _ _ _ (fun y => ⟨_, List.mem_cons_self .., View.mem_set_unit_zero zz inb_S2x4096_S2x4096_0_0 y⟩)).trans
    ((View.canon_cons_unit_zero zz _ _ _).trans ?_)
  first | rfl | (unfold step; rw [e5, e1, e2, e3])

set_option maxHeartbeats 4000000 in
/-- At the last point: the state steps and is written out. -/
theorem body_last (hc0 : ¬isFirst i) (hc1 : isLast i)
    (x1 : Vec F S4096x4096 .bf16) (x2 : Vec F S1x2x4096 .bf16) (x3 : Vec F S1x2x1 .f32) (h : Vec F S2x4096 .f32) (d4 : Vec F S2x4096 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare d4 ∗ owns (c : Thread nD τ) arg5 fullShare h
        ∗ (iprop(owns (c : Thread nD τ) arg1 fullShare x1 ∗ owns (c : Thread nD τ) arg2 fullShare x2 ∗ owns (c : Thread nD τ) arg3 fullShare x3 ∗ owns (c : Thread nD τ) arg4 fullShare (step h x1 x2 x3) ∗ owns (c : Thread nD τ) arg5 fullShare (step h x1 x2 x3)) -∗ K ⟨⟩))
      ⊢ wp frame (wpE (defs₀ (F := F)) Variants.none (c : Thread nD τ) none) E
          (cc2_esn_reservoir (F := F) i arg1 harg1 arg2 harg2 arg3 harg3 arg4 harg4 arg5 harg5) K := by
  have e1 : View.readAt (Elt F) arg1.view (Rect.unit (s := S4096x4096) ![0, 0] S4096x4096.size inb_S4096x4096_S4096x4096_0_0).toLoadRect (harg1.unread x1) = x1 := ld_whole zz _ _ (harg1.read_unread x1)
  have e2 : View.readAt (Elt F) arg2.view (Rect.unit (s := S1x2x4096) ![0, 0, 0] S1x2x4096.size inb_S1x2x4096_S1x2x4096_0_0_0).toLoadRect (harg2.unread x2) = x2 := ld_whole zz3 _ _ (harg2.read_unread x2)
  have e3 : View.readAt (Elt F) arg3.view (Rect.unit (s := S1x2x1) ![0, 0, 0] S1x2x1.size inb_S1x2x1_S1x2x1_0_0_0).toLoadRect (harg3.unread x3) = x3 := ld_whole zz3 _ _ (harg3.read_unread x3)
  have e5 : View.readAt (Elt F) arg5.view (Rect.unit (s := S2x4096) ![0, 0] S2x4096.size inb_S2x4096_S2x4096_0_0).toLoadRect (harg5.unread h) = h := ld_whole zz _ _ (harg5.read_unread h)
  simp only [cc2_esn_reservoir_eq_skeleton]; unfold cc2_esn_reservoir_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3; obtain rfl := harg5.eq_unread hf5
  sl_exec (disch := first | sl_exact hc0 | sl_exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    refine (View.read_writes_eq_canon _ _ _ (fun y => ⟨_, List.mem_singleton.mpr rfl, View.mem_set_unit_zero zz inb_S2x4096_S2x4096_0_0 y⟩)).trans
      ((View.canon_cons_unit_zero zz _ _ _).trans ?_)
    refine (View.ld_unit_zero zz inb_S2x4096_S2x4096_0_0 _).trans ?_
    refine (View.read_writes_eq_canon _ _ _ (fun y => ⟨_, List.mem_singleton.mpr rfl, View.mem_set_unit_zero zz inb_S2x4096_S2x4096_0_0 y⟩)).trans ((View.canon_cons_unit_zero zz _ _ _).trans ?_)
    first | rfl | (unfold step; rw [e5, e1, e2, e3])
  iexists _; isplitr; swap; · iexact H5
  ipureintro
  refine (View.read_writes_eq_canon _ _ _ (fun y => ⟨_, List.mem_cons_self .., View.mem_set_unit_zero zz inb_S2x4096_S2x4096_0_0 y⟩)).trans
    ((View.canon_cons_unit_zero zz _ _ _).trans ?_)
  first | rfl | (unfold step; rw [e5, e1, e2, e3])

end

section
variable (c : Dev nD) (arg0 : Memref sig .tc .vmem S2x4096 .f32) (harg0 : arg0.IsWhole) (arg1 : Memref sig .tc .vmem S2x4096 .f32) (harg1 : arg1.IsWhole) (arg2 : Memref sig .tc .vmem S4096x512 .f32) (harg2 : arg2.IsWhole) (arg3 : Memref sig .tc .vmem S4096x512 .f32) (harg3 : arg3.IsWhole) (arg4 : Memref sig .tc .vmem S2x1024 .f32) (harg4 : arg4.IsWhole) (arg5 : Memref sig .tc .vmem S1024x1 .f32) (harg5 : arg5.IsWhole) (arg6 : Memref sig .tc .vmem S1x1 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2x1024 .f32) (harg11 : arg11.IsWhole)

/-- What the output kernel stores. -/
def outV (x0 : Vec F S2x4096 .f32) (x1 : Vec F S2x4096 .f32) (x2 : Vec F S4096x512 .f32) (x3 : Vec F S4096x512 .f32) (x4 : Vec F S2x1024 .f32) (x5 : Vec F S1024x1 .f32) (x6 : Vec F S1x1 .f32) (x7 : Vec F S1024x1024 .f32) (x8 : Vec F S1x1024 .f32) (x9 : Vec F S1x1024 .f32) (x10 : Vec F S1x1024 .f32) : Vec F S2x1024 .f32 :=
  k4_pay1 (k4_pay2 x0 x2 x1 x3 x4 x5 x6 x7 x8) x9 x10

set_option maxHeartbeats 4000000 in
/-- The output kernel's body: the operands kept, the result at its named value. -/
theorem out_body (x0 : Vec F S2x4096 .f32) (x1 : Vec F S2x4096 .f32) (x2 : Vec F S4096x512 .f32) (x3 : Vec F S4096x512 .f32) (x4 : Vec F S2x1024 .f32) (x5 : Vec F S1024x1 .f32) (x6 : Vec F S1x1 .f32) (x7 : Vec F S1024x1024 .f32) (x8 : Vec F S1x1024 .f32) (x9 : Vec F S1x1024 .f32) (x10 : Vec F S1x1024 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outV x0 x1 x2 x3 x4 x5 x6 x7 x8 x9 x10)) -∗ K ⟨⟩))
      ⊢ wp frame (wpE (defs₀ (F := F)) Variants.none (c : Thread nD τ) none) E
          (cc4_esn_out (F := F) arg0 harg0 arg1 harg1 arg2 harg2 arg3 harg3 arg4 harg4 arg5 harg5 arg6 harg6 arg7 harg7 arg8 harg8 arg9 harg9 arg10 harg10 arg11 harg11) K := by
  have e0 : View.readAt (Elt F) arg0.view (Rect.unit (s := S2x4096) ![0, 0] S2x4096.size inb_S2x4096_S2x4096_0_0).toLoadRect (harg0.unread x0) = x0 := ld_whole zz _ _ (harg0.read_unread x0)
  have e1 : View.readAt (Elt F) arg1.view (Rect.unit (s := S2x4096) ![0, 0] S2x4096.size inb_S2x4096_S2x4096_0_0).toLoadRect (harg1.unread x1) = x1 := ld_whole zz _ _ (harg1.read_unread x1)
  have e2 : View.readAt (Elt F) arg2.view (Rect.unit (s := S4096x512) ![0, 0] S4096x512.size inb_S4096x512_S4096x512_0_0).toLoadRect (harg2.unread x2) = x2 := ld_whole zz _ _ (harg2.read_unread x2)
  have e3 : View.readAt (Elt F) arg3.view (Rect.unit (s := S4096x512) ![0, 0] S4096x512.size inb_S4096x512_S4096x512_0_0).toLoadRect (harg3.unread x3) = x3 := ld_whole zz _ _ (harg3.read_unread x3)
  have e4 : View.readAt (Elt F) arg4.view (Rect.unit (s := S2x1024) ![0, 0] S2x1024.size inb_S2x1024_S2x1024_0_0).toLoadRect (harg4.unread x4) = x4 := ld_whole zz _ _ (harg4.read_unread x4)
  have e5 : View.readAt (Elt F) arg5.view (Rect.unit (s := S1024x1) ![0, 0] S1024x1.size inb_S1024x1_S1024x1_0_0).toLoadRect (harg5.unread x5) = x5 := ld_whole zz _ _ (harg5.read_unread x5)
  have e6 : View.readAt (Elt F) arg6.view (Rect.unit (s := S1x1) ![0, 0] S1x1.size inb_S1x1_S1x1_0_0).toLoadRect (harg6.unread x6) = x6 := ld_whole zz _ _ (harg6.read_unread x6)
  have e7 : View.readAt (Elt F) arg7.view (Rect.unit (s := S1024x1024) ![0, 0] S1024x1024.size inb_S1024x1024_S1024x1024_0_0).toLoadRect (harg7.unread x7) = x7 := ld_whole zz _ _ (harg7.read_unread x7)
  have e8 : View.readAt (Elt F) arg8.view (Rect.unit (s := S1x1024) ![0, 0] S1x1024.size inb_S1x1024_S1x1024_0_0).toLoadRect (harg8.unread x8) = x8 := ld_whole zz _ _ (harg8.read_unread x8)
  have e9 : View.readAt (Elt F) arg9.view (Rect.unit (s := S1x1024) ![0, 0] S1x1024.size inb_S1x1024_S1x1024_0_0).toLoadRect (harg9.unread x9) = x9 := ld_whole zz _ _ (harg9.read_unread x9)
  have e10 : View.readAt (Elt F) arg10.view (Rect.unit (s := S1x1024) ![0, 0] S1x1024.size inb_S1x1024_S1x1024_0_0).toLoadRect (harg10.unread x10) = x10 := ld_whole zz _ _ (harg10.read_unread x10)
  simp only [cc4_esn_out_eq_skeleton]; unfold cc4_esn_out_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  iexists _; isplitr; swap; · iexact H11
  ipureintro
  refine (View.read_writes_eq_canon _ _ _ (fun y => ⟨_, List.mem_singleton.mpr rfl, View.mem_set_unit_zero zz inb_S2x1024_S2x1024_0_0 y⟩)).trans
    ((View.canon_cons_unit_zero zz _ _ _).trans ?_)
  unfold outV
  first | rfl | sl_kernel_rfl
end

end Cert.KernelIdeal.Resv
end
-- ==== Proof.RegGate.lean ====
/- The two gate calls as regions of the program: proof data and body obligations. -/
module

public import proofs.«01_k».proof.Proof.GateBody
public import proofs.«01_k».proof.Proof.Bodies
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The gate call of pipeline 0, at the contents `V` its region is entered with -/

section
variable (V : (c : Dev nD) → (b : Ref sig .tc) → Buf (Elt F) ((c : Thread nD τ).loc b))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the inputs kept, the two results at what the body stores. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => Gate.outU (iblk0 V c 0 t) (iblk0 V c 1 t) (iblk0 V c 2 t) (iblk0 V c 3 t)
    | ⟨5, _⟩ => Gate.outFire (iblk0 V c 0 t) (iblk0 V c 1 t)
  Φ _ := Pipeline.ΦA spec0 c
  q _ := fullShare
  owed _ := 0

theorem before0_0 (c : Dev nD) (t : Fin cfg0.N) (d) : (dat0 V c).before 0 t d = iblk0 V c 0 t :=
  ((dat0 V c).before_in_eq_fetched 0 rfl (fun _ => rfl) (fun _ _ _ => rfl) (fun t => by dsimp only [dat0]; unfold Dat.blockOf iblk0; rfl) t d).trans (by unfold Dat.fetched Dat.blockOf iblk0; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by dsimp only [dat0]; unfold Dat.blockOf iblk0; rfl) t d).trans (by unfold Dat.fetched Dat.blockOf iblk0; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by dsimp only [dat0]; unfold Dat.blockOf iblk0; rfl) t d).trans (by unfold Dat.fetched Dat.blockOf iblk0; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by dsimp only [dat0]; unfold Dat.blockOf iblk0; rfl) t d).trans (by unfold Dat.fetched Dat.blockOf iblk0; rfl)

/-- The class invariant with the call's scratch as owned memrefs. -/
theorem phi0_eq (c : Dev nD) : (Pipeline.ΦA spec0 c : sProp 𝕄) = iprop(iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ Pipeline.scopedRestBut spec0 c [cc0_scratch0, cc0_scratch1, cc0_scratch2, cc0_scratch3, cc0_scratch4]) ∗ (∃ r, prngReg c r)) := by
  unfold Pipeline.ΦA; rw [scopedRest0_split]; simp only [owns_whole]; try rfl

def pre0 (c : Dev nD) (t : Fin cfg0.N) : sProp 𝕄 :=
  iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)))
def post0 (c : Dev nD) (t : Fin cfg0.N) : sProp 𝕄 :=
  iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t))

set_option maxHeartbeats 1000000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl, show (dat0 V c).owesAt () t.succ = (dat0 V c).owesAt () t.castSucc from rfl]
  rw [show (dat0 V c).Φ t.castSucc = Pipeline.ΦA spec0 c from rfl, phi0_eq]
  dsimp only [dat0]
  iintro ⟨⟨⟨⟨S0, S1, S2, S3, S4⟩, HR⟩, Hg⟩, Ho, ⟨%d0, H0⟩, ⟨%d1, H1⟩, ⟨%d2, H2⟩, ⟨%d3, H3⟩, ⟨%d4, H4⟩, ⟨%d5, H5⟩⟩
  iapply (Gate.body c _ _ _ _ _ _ _ _ _ _ _ _ _ _ _ _ _ _ _ _ _ _ (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 HR Hg]
  · isplitr [Hg]
    · isplitr [HR]
      · isplitl [S0]; · iexact S0
        isplitl [S1]; · iexact S1
        isplitl [S2]; · iexact S2
        isplitl [S3]; · iexact S3
        iexact S4
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem obl0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl
end

/-! # The gate call of pipeline 1, at the contents `V` its region is entered with -/

section
variable (V : (c : Dev nD) → (b : Ref sig .tc) → Buf (Elt F) ((c : Thread nD τ).loc b))

/-- The two gate calls run one text. -/
theorem gate1_eq : cc1_esn_gate (F := F) = cc0_esn_gate (F := F) := by sl_kernel_rfl

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: the inputs kept, the two results at what the body stores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Gate.outU (iblk1 V c 0 t) (iblk1 V c 1 t) (iblk1 V c 2 t) (iblk1 V c 3 t)
    | ⟨5, _⟩ => Gate.outFire (iblk1 V c 0 t) (iblk1 V c 1 t)
  Φ _ := Pipeline.ΦA spec1 c
  q _ := fullShare
  owed _ := 0

theorem before1_0 (c : Dev nD) (t : Fin cfg1.N) (d) : (dat1 V c).before 0 t d = iblk1 V c 0 t :=
  ((dat1 V c).before_in_eq_fetched 0 rfl (fun _ => rfl) (fun _ _ _ => rfl) (fun t => by dsimp only [dat1]; unfold Dat.blockOf iblk1; rfl) t d).trans (by unfold Dat.fetched Dat.blockOf iblk1; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by dsimp only [dat1]; unfold Dat.blockOf iblk1; rfl) t d).trans (by unfold Dat.fetched Dat.blockOf iblk1; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by dsimp only [dat1]; unfold Dat.blockOf iblk1; rfl) t d).trans (by unfold Dat.fetched Dat.blockOf iblk1; rfl)
theorem before1_3 (c : Dev nD) (t : Fin cfg1.N) (d) : (dat1 V c).before 3 t d = iblk1 V c 3 t :=
  ((dat1 V c).before_in_eq_fetched 3 rfl (fun _ => rfl) (fun _ _ _ => rfl) (fun t => by dsimp only [dat1]; unfold Dat.blockOf iblk1; rfl) t d).trans (by unfold Dat.fetched Dat.blockOf iblk1; rfl)

/-- The class invariant with the call's scratch as owned memrefs. -/
theorem phi1_eq (c : Dev nD) : (Pipeline.ΦA spec1 c : sProp 𝕄) = iprop(iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d)) ∗ Pipeline.scopedRestBut spec1 c [cc1_scratch0, cc1_scratch1, cc1_scratch2, cc1_scratch3, cc1_scratch4]) ∗ (∃ r, prngReg c r)) := by
  unfold Pipeline.ΦA; rw [scopedRest1_split]; simp only [owns_whole]; try rfl

def pre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)))
def post1 (c : Dev nD) (t : Fin cfg1.N) : sProp 𝕄 :=
  iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t))

set_option maxHeartbeats 1000000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  rw [gate1_eq]
  simp only [before1_0, before1_1, before1_2, before1_3]
  rw [show (dat1 V c).Φ t.succ = (dat1 V c).Φ t.castSucc from rfl, show (dat1 V c).owesAt () t.succ = (dat1 V c).owesAt () t.castSucc from rfl]
  rw [show (dat1 V c).Φ t.castSucc = Pipeline.ΦA spec1 c from rfl, phi1_eq]
  dsimp only [dat1]
  iintro ⟨⟨⟨⟨S0, S1, S2, S3, S4⟩, HR⟩, Hg⟩, Ho, ⟨%d0, H0⟩, ⟨%d1, H1⟩, ⟨%d2, H2⟩, ⟨%d3, H3⟩, ⟨%d4, H4⟩, ⟨%d5, H5⟩⟩
  iapply (Gate.body c _ _ _ _ _ _ _ _ _ _ _ _ _ _ _ _ _ _ _ _ _ _ (iblk1 V c 0 t) (iblk1 V c 1 t) (iblk1 V c 2 t) (iblk1 V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 HR Hg]
  · isplitr [Hg]
    · isplitr [HR]
      · isplitl [S0]; · iexact S0
        isplitl [S1]; · iexact S1
        isplitl [S2]; · iexact S2
        isplitl [S3]; · iexact S3
        iexact S4
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem obl1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 V c t) rfl .rfl fun _ => .rfl
end

end Cert.KernelIdeal.Run
end
-- ==== Proof.RegResv.lean ====
/- The two reservoir calls as regions of the program: the state carried in the scratch, proof data and body obligations. -/
module

public import proofs.«01_k».proof.Proof.GateBody
public import proofs.«01_k».proof.Proof.Bodies
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The reservoir call of pipeline 2, at the contents `V` its region is entered with -/

section
variable (V : (c : Dev nD) → (b : Ref sig .tc) → Buf (Elt F) ((c : Thread nD τ).loc b))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The state after the first `n` points: the steps of their blocks, from zero. -/
def hAt2 (c : Dev nD) : ℕ → Vec F S2x4096 .f32
  | 0 => Resv.h0
  | n + 1 => if h : n < cfg2.N then Resv.step (hAt2 c n) (iblk2 V c 0 ⟨n, h⟩) (iblk2 V c 1 ⟨n, h⟩) (iblk2 V c 2 ⟨n, h⟩) else hAt2 c n

theorem hAt2_step (c : Dev nD) (t : Fin cfg2.N) : Resv.step (hAt2 V c t.val) (iblk2 V c 0 t) (iblk2 V c 1 t) (iblk2 V c 2 t) = hAt2 V c (t.val + 1) := by
  rw [hAt2, dif_pos t.isLt]

/-- Between the points: before the first the class's, then the scratch at the state reached. -/
def Phi2 (c : Dev nD) (n : ℕ) : sProp 𝕄 :=
  if n = 0 then Pipeline.ΦA spec2 c
  else iprop(iprop(owns (c : Thread nD τ) (Memref.whole cc2_scratch0) fullShare (hAt2 V c n) ∗ Pipeline.scopedRestBut spec2 c [cc2_scratch0]) ∗ (∃ r, prngReg c r))

theorem phiA2_eq (c : Dev nD) : (Pipeline.ΦA spec2 c : sProp 𝕄) = iprop(iprop((∃ d, owns (c : Thread nD τ) (Memref.whole cc2_scratch0) fullShare d) ∗ Pipeline.scopedRestBut spec2 c [cc2_scratch0]) ∗ (∃ r, prngReg c r)) := by
  unfold Pipeline.ΦA; rw [scopedRest2_split]; simp only [owns_whole]; try rfl
theorem phi2_zero (c : Dev nD) (n : ℕ) (h : n = 0) : Phi2 V c n = iprop(iprop((∃ d, owns (c : Thread nD τ) (Memref.whole cc2_scratch0) fullShare d) ∗ Pipeline.scopedRestBut spec2 c [cc2_scratch0]) ∗ (∃ r, prngReg c r)) := by
  unfold Phi2; rw [if_pos h, phiA2_eq]
theorem phi2_pos (c : Dev nD) (n : ℕ) (h : n ≠ 0) : Phi2 V c n = iprop(iprop(owns (c : Thread nD τ) (Memref.whole cc2_scratch0) fullShare (hAt2 V c n) ∗ Pipeline.scopedRestBut spec2 c [cc2_scratch0]) ∗ (∃ r, prngReg c r)) :=
  if_neg h

/-- The proof data: the inputs kept, the result at the state reached. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => hAt2 V c (t.val + 1)
  Φ t := Phi2 V c t.val
  q _ := fullShare
  owed _ := 0

theorem before2_0 (c : Dev nD) (t : Fin cfg2.N) (d) : (dat2 V c).before 0 t d = iblk2 V c 0 t :=
  ((dat2 V c).before_in_eq_fetched 0 rfl (fun _ => rfl) (fun _ _ _ => rfl) (fun t => by dsimp only [dat2]; unfold Dat.blockOf iblk2; rfl) t d).trans (by unfold Dat.fetched Dat.blockOf iblk2; rfl)
theorem leaves2_0 (c : Dev nD) (t : Fin cfg2.N) : (dat2 V c).leavesExact 0 t = owns (c : Thread nD τ) (st2_0 t) fullShare (iblk2 V c 0 t) := by
  unfold Dat.leavesExact; rw [show cfg2.idle 0 (cfg2.grid.coords t) = false from rfl]; rfl
theorem before2_1 (c : Dev nD) (t : Fin cfg2.N) (d) : (dat2 V c).before 1 t d = iblk2 V c 1 t :=
  ((dat2 V c).before_in_eq_fetched 1 rfl (fun _ => rfl) (fun _ _ _ => rfl) (fun t => by dsimp only [dat2]; unfold Dat.blockOf iblk2; rfl) t d).trans (by unfold Dat.fetched Dat.blockOf iblk2; rfl)
theorem leaves2_1 (c : Dev nD) (t : Fin cfg2.N) : (dat2 V c).leavesExact 1 t = owns (c : Thread nD τ) (st2_1 t) fullShare (iblk2 V c 1 t) := by
  unfold Dat.leavesExact; rw [show cfg2.idle 1 (cfg2.grid.coords t) = false from rfl]; rfl
theorem before2_2 (c : Dev nD) (t : Fin cfg2.N) (d) : (dat2 V c).before 2 t d = iblk2 V c 2 t :=
  ((dat2 V c).before_in_eq_fetched 2 rfl (fun _ => rfl) (fun _ _ _ => rfl) (fun t => by dsimp only [dat2]; unfold Dat.blockOf iblk2; rfl) t d).trans (by unfold Dat.fetched Dat.blockOf iblk2; rfl)
theorem leaves2_2 (c : Dev nD) (t : Fin cfg2.N) : (dat2 V c).leavesExact 2 t = owns (c : Thread nD τ) (st2_2 t) fullShare (iblk2 V c 2 t) := by
  unfold Dat.leavesExact; rw [show cfg2.idle 2 (cfg2.grid.coords t) = false from rfl]; rfl

/-- The two conditions, by the point's number. -/
theorem first2 : ∀ t : Fin cfg2.N, Resv.isFirst (grid2.coords t) ↔ t.val = 0 :=
  (fun t => by
    have ht : t.val < 512 := Nat.lt_of_lt_of_eq t.isLt N_2
    have e0 : (grid2.coords t 0).val = t.val / 1 % 512 := Pipeline.Grid.coords_val t 0 (by decide) rfl
    have h : t.val = 0 ↔ t.val % 512 = 0 := by omega
    rw [h]
    simp only [Resv.isFirst, e0]
    word_cmp
   : ∀ t : Fin grid2.N, Resv.isFirst (grid2.coords t) ↔ t.val = 0)
theorem last2 : ∀ t : Fin cfg2.N, Resv.isLast (grid2.coords t) ↔ t.val = 511 :=
  (fun t => by
    have ht : t.val < 512 := Nat.lt_of_lt_of_eq t.isLt N_2
    have e0 : (grid2.coords t 0).val = t.val / 1 % 512 := Pipeline.Grid.coords_val t 0 (by decide) rfl
    have h : t.val = 511 ↔ t.val % 512 = 511 := by omega
    rw [h]
    simp only [Resv.isLast, k2_cond2, e0]
    word_cmp
   : ∀ t : Fin grid2.N, Resv.isLast (grid2.coords t) ↔ t.val = 511)

/-- The result's window is idle but at the last point. -/
theorem idle2 : ∀ t : Fin cfg2.N, ¬Resv.isLast (grid2.coords t) → cfg2.idle 3 (grid2.coords t) = true := by decide +kernel
theorem noFlush2 : ∀ t : Fin cfg2.N, ¬Resv.isLast (grid2.coords t) → (cfg2.win 3).flush t = false := by decide +kernel
theorem live2 : ∀ t : Fin cfg2.N, Resv.isLast (grid2.coords t) → cfg2.idle 3 (grid2.coords t) = false := by decide +kernel

def pre2 (c : Dev nD) (t : Fin cfg2.N) : sProp 𝕄 :=
  iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)))
def post2 (c : Dev nD) (t : Fin cfg2.N) : sProp 𝕄 :=
  iprop((dat2 V c).Φ t.succ ∗ (dat2 V c).owesAt () t.succ ∗ (dat2 V c).leavesExact 0 t ∗ (dat2 V c).leavesExact 1 t ∗ (dat2 V c).leavesExact 2 t ∗ (dat2 V c).leavesExact 3 t)

set_option maxHeartbeats 1000000 in
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).owesAt () t.succ = (dat2 V c).owesAt () t.castSucc from rfl,
    show (dat2 V c).Φ t.castSucc = Phi2 V c t.val from rfl, show (dat2 V c).Φ t.succ = Phi2 V c (t.val + 1) from rfl,
    phi2_pos V c (t.val + 1) (by omega), leaves2_0, leaves2_1, leaves2_2]
  have hN : t.val < 512 := lt_of_lt_of_eq t.isLt (show cfg2.N = 512 from N_2)
  have hstep := hAt2_step V c t
  by_cases hf : t.val = 0
  · have hl : ¬t.val = 511 := by omega
    rw [show hAt2 V c t.val = Resv.h0 from by rw [hf]; rfl] at hstep
    rw [Dat.leavesExact_idle (dat2 V c) 3 t (idle2 t (fun h => hl ((last2 t).mp h))) (noFlush2 t (fun h => hl ((last2 t).mp h)))]
    rw [phi2_zero V c t.val (by omega)]
    iintro ⟨⟨⟨HS, HR⟩, Hg⟩, Ho, ⟨%d0, H0⟩, ⟨%d1, H1⟩, ⟨%d2, H2⟩, ⟨%d3, H3⟩⟩
    iapply (Resv.body_first c _ _ _ _ _ _ _ _ _ _ _ ((first2 t).mpr hf) (fun h => hl ((last2 t).mp h)) (iblk2 V c 0 t) (iblk2 V c 1 t) (iblk2 V c 2 t) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists _; iexact H3
  by_cases hl : t.val = 511
  · skip
    rw [show (dat2 V c).leavesExact 3 t = owns (c : Thread nD τ) (st2_3 t) fullShare (hAt2 V c (t.val + 1)) from by unfold Dat.leavesExact; rw [live2 t ((last2 t).mpr hl)]; rfl]
    rw [phi2_pos V c t.val (by omega)]
    iintro ⟨⟨⟨HS, HR⟩, Hg⟩, Ho, ⟨%d0, H0⟩, ⟨%d1, H1⟩, ⟨%d2, H2⟩, ⟨%d3, H3⟩⟩
    iapply (Resv.body_last c _ _ _ _ _ _ _ _ _ _ _ (fun h => hf ((first2 t).mp h)) ((last2 t).mpr hl) (iblk2 V c 0 t) (iblk2 V c 1 t) (iblk2 V c 2 t) (hAt2 V c t.val) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexact H3
  · skip
    rw [Dat.leavesExact_idle (dat2 V c) 3 t (idle2 t (fun h => hl ((last2 t).mp h))) (noFlush2 t (fun h => hl ((last2 t).mp h)))]
    rw [phi2_pos V c t.val (by omega)]
    iintro ⟨⟨⟨HS, HR⟩, Hg⟩, Ho, ⟨%d0, H0⟩, ⟨%d1, H1⟩, ⟨%d2, H2⟩, ⟨%d3, H3⟩⟩
    iapply (Resv.body_mid c _ _ _ _ _ _ _ _ _ _ _ (fun h => hf ((first2 t).mp h)) (fun h => hl ((last2 t).mp h)) (iblk2 V c 0 t) (iblk2 V c 1 t) (iblk2 V c 2 t) (hAt2 V c t.val) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists _; iexact H3

/-- The body obligation at every point. -/
theorem obl2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound2 V c t) rfl .rfl fun _ => .rfl

/-- The invariant gives the class's back at the end. -/
theorem phi2_out (c : Dev nD) : (dat2 V c).Φ (Fin.last cfg2.N) ⊢ Pipeline.ΦA spec2 c := by
  rw [show (dat2 V c).Φ (Fin.last cfg2.N) = Phi2 V c cfg2.N from rfl, phi2_pos V c _ (by rw [show cfg2.N = 512 from N_2]; omega), phiA2_eq]
  iintro ⟨⟨HS, HR⟩, Hg⟩
  isplitr [Hg]
  · isplitl [HS]; · iexists _; iexact HS
    iexact HR
  iexact Hg
theorem phi2_in (c : Dev nD) : (dat2 V c).Φ 0 = Pipeline.ΦA spec2 c := rfl
end

/-! # The reservoir call of pipeline 3, at the contents `V` its region is entered with -/

section
variable (V : (c : Dev nD) → (b : Ref sig .tc) → Buf (Elt F) ((c : Thread nD τ).loc b))

/-- The two reservoir calls run one text. -/
theorem resv3_eq : cc3_esn_reservoir (F := F) = cc2_esn_reservoir (F := F) := by sl_kernel_rfl

/-- Window `w`'s block at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The state after the first `n` points: the steps of their blocks, from zero. -/
def hAt3 (c : Dev nD) : ℕ → Vec F S2x4096 .f32
  | 0 => Resv.h0
  | n + 1 => if h : n < cfg3.N then Resv.step (hAt3 c n) (iblk3 V c 0 ⟨n, h⟩) (iblk3 V c 1 ⟨n, h⟩) (iblk3 V c 2 ⟨n, h⟩) else hAt3 c n

theorem hAt3_step (c : Dev nD) (t : Fin cfg3.N) : Resv.step (hAt3 V c t.val) (iblk3 V c 0 t) (iblk3 V c 1 t) (iblk3 V c 2 t) = hAt3 V c (t.val + 1) := by
  rw [hAt3, dif_pos t.isLt]

/-- Between the points: before the first the class's, then the scratch at the state reached. -/
def Phi3 (c : Dev nD) (n : ℕ) : sProp 𝕄 :=
  if n = 0 then Pipeline.ΦA spec3 c
  else iprop(iprop(owns (c : Thread nD τ) (Memref.whole cc3_scratch0) fullShare (hAt3 V c n) ∗ Pipeline.scopedRestBut spec3 c [cc3_scratch0]) ∗ (∃ r, prngReg c r))

theorem phiA3_eq (c : Dev nD) : (Pipeline.ΦA spec3 c : sProp 𝕄) = iprop(iprop((∃ d, owns (c : Thread nD τ) (Memref.whole cc3_scratch0) fullShare d) ∗ Pipeline.scopedRestBut spec3 c [cc3_scratch0]) ∗ (∃ r, prngReg c r)) := by
  unfold Pipeline.ΦA; rw [scopedRest3_split]; simp only [owns_whole]; try rfl
theorem phi3_zero (c : Dev nD) (n : ℕ) (h : n = 0) : Phi3 V c n = iprop(iprop((∃ d, owns (c : Thread nD τ) (Memref.whole cc3_scratch0) fullShare d) ∗ Pipeline.scopedRestBut spec3 c [cc3_scratch0]) ∗ (∃ r, prngReg c r)) := by
  unfold Phi3; rw [if_pos h, phiA3_eq]
theorem phi3_pos (c : Dev nD) (n : ℕ) (h : n ≠ 0) : Phi3 V c n = iprop(iprop(owns (c : Thread nD τ) (Memref.whole cc3_scratch0) fullShare (hAt3 V c n) ∗ Pipeline.scopedRestBut spec3 c [cc3_scratch0]) ∗ (∃ r, prngReg c r)) :=
  if_neg h

/-- The proof data: the inputs kept, the result at the state reached. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => hAt3 V c (t.val + 1)
  Φ t := Phi3 V c t.val
  q _ := fullShare
  owed _ := 0

theorem before3_0 (c : Dev nD) (t : Fin cfg3.N) (d) : (dat3 V c).before 0 t d = iblk3 V c 0 t :=
  ((dat3 V c).before_in_eq_fetched 0 rfl (fun _ => rfl) (fun _ _ _ => rfl) (fun t => by dsimp only [dat3]; unfold Dat.blockOf iblk3; rfl) t d).trans (by unfold Dat.fetched Dat.blockOf iblk3; rfl)
theorem leaves3_0 (c : Dev nD) (t : Fin cfg3.N) : (dat3 V c).leavesExact 0 t = owns (c : Thread nD τ) (st3_0 t) fullShare (iblk3 V c 0 t) := by
  unfold Dat.leavesExact; rw [show cfg3.idle 0 (cfg3.grid.coords t) = false from rfl]; rfl
theorem before3_1 (c : Dev nD) (t : Fin cfg3.N) (d) : (dat3 V c).before 1 t d = iblk3 V c 1 t :=
  ((dat3 V c).before_in_eq_fetched 1 rfl (fun _ => rfl) (fun _ _ _ => rfl) (fun t => by dsimp only [dat3]; unfold Dat.blockOf iblk3; rfl) t d).trans (by unfold Dat.fetched Dat.blockOf iblk3; rfl)
theorem leaves3_1 (c : Dev nD) (t : Fin cfg3.N) : (dat3 V c).leavesExact 1 t = owns (c : Thread nD τ) (st3_1 t) fullShare (iblk3 V c 1 t) := by
  unfold Dat.leavesExact; rw [show cfg3.idle 1 (cfg3.grid.coords t) = false from rfl]; rfl
theorem before3_2 (c : Dev nD) (t : Fin cfg3.N) (d) : (dat3 V c).before 2 t d = iblk3 V c 2 t :=
  ((dat3 V c).before_in_eq_fetched 2 rfl (fun _ => rfl) (fun _ _ _ => rfl) (fun t => by dsimp only [dat3]; unfold Dat.blockOf iblk3; rfl) t d).trans (by unfold Dat.fetched Dat.blockOf iblk3; rfl)
theorem leaves3_2 (c : Dev nD) (t : Fin cfg3.N) : (dat3 V c).leavesExact 2 t = owns (c : Thread nD τ) (st3_2 t) fullShare (iblk3 V c 2 t) := by
  unfold Dat.leavesExact; rw [show cfg3.idle 2 (cfg3.grid.coords t) = false from rfl]; rfl

/-- The two conditions, by the point's number. -/
theorem first3 : ∀ t : Fin cfg3.N, Resv.isFirst (grid3.coords t) ↔ t.val = 0 :=
  (fun t => by
    have ht : t.val < 512 := Nat.lt_of_lt_of_eq t.isLt N_3
    have e0 : (grid3.coords t 0).val = t.val / 1 % 512 := Pipeline.Grid.coords_val t 0 (by decide) rfl
    have h : t.val = 0 ↔ t.val % 512 = 0 := by omega
    rw [h]
    simp only [Resv.isFirst, e0]
    word_cmp
   : ∀ t : Fin grid3.N, Resv.isFirst (grid3.coords t) ↔ t.val = 0)
theorem last3 : ∀ t : Fin cfg3.N, Resv.isLast (grid3.coords t) ↔ t.val = 511 :=
  (fun t => by
    have ht : t.val < 512 := Nat.lt_of_lt_of_eq t.isLt N_3
    have e0 : (grid3.coords t 0).val = t.val / 1 % 512 := Pipeline.Grid.coords_val t 0 (by decide) rfl
    have h : t.val = 511 ↔ t.val % 512 = 511 := by omega
    rw [h]
    simp only [Resv.isLast, k2_cond2, e0]
    word_cmp
   : ∀ t : Fin grid3.N, Resv.isLast (grid3.coords t) ↔ t.val = 511)

/-- The result's window is idle but at the last point. -/
theorem idle3 : ∀ t : Fin cfg3.N, ¬Resv.isLast (grid3.coords t) → cfg3.idle 3 (grid3.coords t) = true := by decide +kernel
theorem noFlush3 : ∀ t : Fin cfg3.N, ¬Resv.isLast (grid3.coords t) → (cfg3.win 3).flush t = false := by decide +kernel
theorem live3 : ∀ t : Fin cfg3.N, Resv.isLast (grid3.coords t) → cfg3.idle 3 (grid3.coords t) = false := by decide +kernel

def pre3 (c : Dev nD) (t : Fin cfg3.N) : sProp 𝕄 :=
  iprop((dat3 V c).Φ t.castSucc ∗ (dat3 V c).owesAt () t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)) ∗ (∃ d, owns (c : Thread nD τ) (st3_3 t) fullShare ((dat3 V c).before 3 t d)))
def post3 (c : Dev nD) (t : Fin cfg3.N) : sProp 𝕄 :=
  iprop((dat3 V c).Φ t.succ ∗ (dat3 V c).owesAt () t.succ ∗ (dat3 V c).leavesExact 0 t ∗ (dat3 V c).leavesExact 1 t ∗ (dat3 V c).leavesExact 2 t ∗ (dat3 V c).leavesExact 3 t)

set_option maxHeartbeats 1000000 in
theorem sound3 (c : Dev nD) (t : Fin cfg3.N) :
    pre3 V c t ⊢ wp frame (wpE (defs₀ (F := F)) Variants.none c none) Set.univ (bodyAt3 t) (fun _ => post3 V c t) := by
  unfold pre3 post3 bodyAt3
  rw [resv3_eq]
  simp only [before3_0, before3_1, before3_2]
  rw [show (dat3 V c).owesAt () t.succ = (dat3 V c).owesAt () t.castSucc from rfl,
    show (dat3 V c).Φ t.castSucc = Phi3 V c t.val from rfl, show (dat3 V c).Φ t.succ = Phi3 V c (t.val + 1) from rfl,
    phi3_pos V c (t.val + 1) (by omega), leaves3_0, leaves3_1, leaves3_2]
  have hN : t.val < 512 := lt_of_lt_of_eq t.isLt (show cfg3.N = 512 from N_3)
  have hstep := hAt3_step V c t
  by_cases hf : t.val = 0
  · have hl : ¬t.val = 511 := by omega
    rw [show hAt3 V c t.val = Resv.h0 from by rw [hf]; rfl] at hstep
    rw [Dat.leavesExact_idle (dat3 V c) 3 t (idle3 t (fun h => hl ((last3 t).mp h))) (noFlush3 t (fun h => hl ((last3 t).mp h)))]
    rw [phi3_zero V c t.val (by omega)]
    iintro ⟨⟨⟨HS, HR⟩, Hg⟩, Ho, ⟨%d0, H0⟩, ⟨%d1, H1⟩, ⟨%d2, H2⟩, ⟨%d3, H3⟩⟩
    iapply (Resv.body_first c _ _ _ _ _ _ _ _ _ _ _ ((first3 t).mpr hf) (fun h => hl ((last3 t).mp h)) (iblk3 V c 0 t) (iblk3 V c 1 t) (iblk3 V c 2 t) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists _; iexact H3
  by_cases hl : t.val = 511
  · skip
    rw [show (dat3 V c).leavesExact 3 t = owns (c : Thread nD τ) (st3_3 t) fullShare (hAt3 V c (t.val + 1)) from by unfold Dat.leavesExact; rw [live3 t ((last3 t).mpr hl)]; rfl]
    rw [phi3_pos V c t.val (by omega)]
    iintro ⟨⟨⟨HS, HR⟩, Hg⟩, Ho, ⟨%d0, H0⟩, ⟨%d1, H1⟩, ⟨%d2, H2⟩, ⟨%d3, H3⟩⟩
    iapply (Resv.body_last c _ _ _ _ _ _ _ _ _ _ _ (fun h => hf ((first3 t).mp h)) ((last3 t).mpr hl) (iblk3 V c 0 t) (iblk3 V c 1 t) (iblk3 V c 2 t) (hAt3 V c t.val) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexact H3
  · skip
    rw [Dat.leavesExact_idle (dat3 V c) 3 t (idle3 t (fun h => hl ((last3 t).mp h))) (noFlush3 t (fun h => hl ((last3 t).mp h)))]
    rw [phi3_pos V c t.val (by omega)]
    iintro ⟨⟨⟨HS, HR⟩, Hg⟩, Ho, ⟨%d0, H0⟩, ⟨%d1, H1⟩, ⟨%d2, H2⟩, ⟨%d3, H3⟩⟩
    iapply (Resv.body_mid c _ _ _ _ _ _ _ _ _ _ _ (fun h => hf ((first3 t).mp h)) (fun h => hl ((last3 t).mp h)) (iblk3 V c 0 t) (iblk3 V c 1 t) (iblk3 V c 2 t) (hAt3 V c t.val) _ Set.univ _)
    isplitl [H0]; · iexact H0
    isplitl [H1]; · iexact H1
    isplitl [H2]; · iexact H2
    isplitl [H3]; · iexact H3
    isplitl [HS]; · iexact HS
    rw [hstep]
    iintro ⟨H0, H1, H2, H3, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    iexists _; iexact H3

/-- The body obligation at every point. -/
theorem obl3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (sound3 V c t) rfl .rfl fun _ => .rfl

/-- The invariant gives the class's back at the end. -/
theorem phi3_out (c : Dev nD) : (dat3 V c).Φ (Fin.last cfg3.N) ⊢ Pipeline.ΦA spec3 c := by
  rw [show (dat3 V c).Φ (Fin.last cfg3.N) = Phi3 V c cfg3.N from rfl, phi3_pos V c _ (by rw [show cfg3.N = 512 from N_3]; omega), phiA3_eq]
  iintro ⟨⟨HS, HR⟩, Hg⟩
  isplitr [Hg]
  · isplitl [HS]; · iexists _; iexact HS
    iexact HR
  iexact Hg
theorem phi3_in (c : Dev nD) : (dat3 V c).Φ 0 = Pipeline.ΦA spec3 c := rfl
end

end Cert.KernelIdeal.Run
end
-- ==== Proof.RegOut.lean ====
/- The output call as a region of the program: proof data and body obligation. -/
module

public import proofs.«01_k».proof.Proof.GateBody
public import proofs.«01_k».proof.Proof.Bodies
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at the point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The proof data: the inputs kept, the result at what the body stores. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => Resv.outV (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem before4_0 (c : Dev nD) (t : Fin cfg4.N) (d) : (dat4 V c).before 0 t d = iblk4 V c 0 t :=
  ((dat4 V c).before_in_eq_fetched 0 rfl (fun _ => rfl) (fun _ _ _ => rfl) (fun t => by dsimp only [dat4]; unfold Dat.blockOf iblk4; rfl) t d).trans (by unfold Dat.fetched Dat.blockOf iblk4; rfl)
theorem before4_1 (c : Dev nD) (t : Fin cfg4.N) (d) : (dat4 V c).before 1 t d = iblk4 V c 1 t :=
  ((dat4 V c).before_in_eq_fetched 1 rfl (fun _ => rfl) (fun _ _ _ => rfl) (fun t => by dsimp only [dat4]; unfold Dat.blockOf iblk4; rfl) t d).trans (by unfold Dat.fetched Dat.blockOf iblk4; rfl)
theorem before4_2 (c : Dev nD) (t : Fin cfg4.N) (d) : (dat4 V c).before 2 t d = iblk4 V c 2 t :=
  ((dat4 V c).before_in_eq_fetched 2 rfl (fun _ => rfl) (fun _ _ _ => rfl) (fun t => by dsimp only [dat4]; unfold Dat.blockOf iblk4; rfl) t d).trans (by unfold Dat.fetched Dat.blockOf iblk4; rfl)
theorem before4_3 (c : Dev nD) (t : Fin cfg4.N) (d) : (dat4 V c).before 3 t d = iblk4 V c 3 t :=
  ((dat4 V c).before_in_eq_fetched 3 rfl (fun _ => rfl) (fun _ _ _ => rfl) (fun t => by dsimp only [dat4]; unfold Dat.blockOf iblk4; rfl) t d).trans (by unfold Dat.fetched Dat.blockOf iblk4; rfl)
theorem before4_4 (c : Dev nD) (t : Fin cfg4.N) (d) : (dat4 V c).before 4 t d = iblk4 V c 4 t :=
  ((dat4 V c).before_in_eq_fetched 4 rfl (fun _ => rfl) (fun _ _ _ => rfl) (fun t => by dsimp only [dat4]; unfold Dat.blockOf iblk4; rfl) t d).trans (by unfold Dat.fetched Dat.blockOf iblk4; rfl)
theorem before4_5 (c : Dev nD) (t : Fin cfg4.N) (d) : (dat4 V c).before 5 t d = iblk4 V c 5 t :=
  ((dat4 V c).before_in_eq_fetched 5 rfl (fun _ => rfl) (fun _ _ _ => rfl) (fun t => by dsimp only [dat4]; unfold Dat.blockOf iblk4; rfl) t d).trans (by unfold Dat.fetched Dat.blockOf iblk4; rfl)
theorem before4_6 (c : Dev nD) (t : Fin cfg4.N) (d) : (dat4 V c).before 6 t d = iblk4 V c 6 t :=
  ((dat4 V c).before_in_eq_fetched 6 rfl (fun _ => rfl) (fun _ _ _ => rfl) (fun t => by dsimp only [dat4]; unfold Dat.blockOf iblk4; rfl) t d).trans (by unfold Dat.fetched Dat.blockOf iblk4; rfl)
theorem before4_7 (c : Dev nD) (t : Fin cfg4.N) (d) : (dat4 V c).before 7 t d = iblk4 V c 7 t :=
  ((dat4 V c).before_in_eq_fetched 7 rfl (fun _ => rfl) (fun _ _ _ => rfl) (fun t => by dsimp only [dat4]; unfold Dat.blockOf iblk4; rfl) t d).trans (by unfold Dat.fetched Dat.blockOf iblk4; rfl)
theorem before4_8 (c : Dev nD) (t : Fin cfg4.N) (d) : (dat4 V c).before 8 t d = iblk4 V c 8 t :=
  ((dat4 V c).before_in_eq_fetched 8 rfl (fun _ => rfl) (fun _ _ _ => rfl) (fun t => by dsimp only [dat4]; unfold Dat.blockOf iblk4; rfl) t d).trans (by unfold Dat.fetched Dat.blockOf iblk4; rfl)
theorem before4_9 (c : Dev nD) (t : Fin cfg4.N) (d) : (dat4 V c).before 9 t d = iblk4 V c 9 t :=
  ((dat4 V c).before_in_eq_fetched 9 rfl (fun _ => rfl) (fun _ _ _ => rfl) (fun t => by dsimp only [dat4]; unfold Dat.blockOf iblk4; rfl) t d).trans (by unfold Dat.fetched Dat.blockOf iblk4; rfl)
theorem before4_10 (c : Dev nD) (t : Fin cfg4.N) (d) : (dat4 V c).before 10 t d = iblk4 V c 10 t :=
  ((dat4 V c).before_in_eq_fetched 10 rfl (fun _ => rfl) (fun _ _ _ => rfl) (fun t => by dsimp only [dat4]; unfold Dat.blockOf iblk4; rfl) t d).trans (by unfold Dat.fetched Dat.blockOf iblk4; rfl)

def pre4 (c : Dev nD) (t : Fin cfg4.N) : sProp 𝕄 :=
  iprop((dat4 V c).Φ t.castSucc ∗ (dat4 V c).owesAt () t.castSucc ∗ (∃ d, owns (c : Thread nD τ) (st4_0 t) fullShare ((dat4 V c).before 0 t d)) ∗ (∃ d, owns (c : Thread nD τ) (st4_1 t) fullShare ((dat4 V c).before 1 t d)) ∗ (∃ d, owns (c : Thread nD τ) (st4_2 t) fullShare ((dat4 V c).before 2 t d)) ∗ (∃ d, owns (c : Thread nD τ) (st4_3 t) fullShare ((dat4 V c).before 3 t d)) ∗ (∃ d, owns (c : Thread nD τ) (st4_4 t) fullShare ((dat4 V c).before 4 t d)) ∗ (∃ d, owns (c : Thread nD τ) (st4_5 t) fullShare ((dat4 V c).before 5 t d)) ∗ (∃ d, owns (c : Thread nD τ) (st4_6 t) fullShare ((dat4 V c).before 6 t d)) ∗ (∃ d, owns (c : Thread nD τ) (st4_7 t) fullShare ((dat4 V c).before 7 t d)) ∗ (∃ d, owns (c : Thread nD τ) (st4_8 t) fullShare ((dat4 V c).before 8 t d)) ∗ (∃ d, owns (c : Thread nD τ) (st4_9 t) fullShare ((dat4 V c).before 9 t d)) ∗ (∃ d, owns (c : Thread nD τ) (st4_10 t) fullShare ((dat4 V c).before 10 t d)) ∗ (∃ d, owns (c : Thread nD τ) (st4_11 t) fullShare ((dat4 V c).before 11 t d)))
def post4 (c : Dev nD) (t : Fin cfg4.N) : sProp 𝕄 :=
  iprop((dat4 V c).Φ t.succ ∗ (dat4 V c).owesAt () t.succ ∗ owns (c : Thread nD τ) (st4_0 t) fullShare ((dat4 V c).after 0 t) ∗ owns (c : Thread nD τ) (st4_1 t) fullShare ((dat4 V c).after 1 t) ∗ owns (c : Thread nD τ) (st4_2 t) fullShare ((dat4 V c).after 2 t) ∗ owns (c : Thread nD τ) (st4_3 t) fullShare ((dat4 V c).after 3 t) ∗ owns (c : Thread nD τ) (st4_4 t) fullShare ((dat4 V c).after 4 t) ∗ owns (c : Thread nD τ) (st4_5 t) fullShare ((dat4 V c).after 5 t) ∗ owns (c : Thread nD τ) (st4_6 t) fullShare ((dat4 V c).after 6 t) ∗ owns (c : Thread nD τ) (st4_7 t) fullShare ((dat4 V c).after 7 t) ∗ owns (c : Thread nD τ) (st4_8 t) fullShare ((dat4 V c).after 8 t) ∗ owns (c : Thread nD τ) (st4_9 t) fullShare ((dat4 V c).after 9 t) ∗ owns (c : Thread nD τ) (st4_10 t) fullShare ((dat4 V c).after 10 t) ∗ owns (c : Thread nD τ) (st4_11 t) fullShare ((dat4 V c).after 11 t))

set_option maxHeartbeats 1000000 in
theorem sound4 (c : Dev nD) (t : Fin cfg4.N) :
    pre4 V c t ⊢ wp frame (wpE (defs₀ (F := F)) Variants.none c none) Set.univ (bodyAt4 t) (fun _ => post4 V c t) := by
  unfold pre4 post4 bodyAt4
  simp only [before4_0, before4_1, before4_2, before4_3, before4_4, before4_5, before4_6, before4_7, before4_8, before4_9, before4_10]
  rw [show (dat4 V c).Φ t.succ = (dat4 V c).Φ t.castSucc from rfl, show (dat4 V c).owesAt () t.succ = (dat4 V c).owesAt () t.castSucc from rfl]
  dsimp only [dat4]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Resv.out_body c _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation. -/
theorem obl4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  exact triple_restated (sound4 V c t) rfl .rfl fun _ => .rfl
end

end Cert.KernelIdeal.Run
end
-- ==== Proof.Run.lean ====
/- The program's run: the buffers at every boundary, the five regions and the launch. -/
module

public import proofs.«01_k».proof.Proof.RegGate
public import proofs.«01_k».proof.Proof.RegResv
public import proofs.«01_k».proof.Proof.RegOut
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # One region as a segment, whatever its pipeline -/

abbrev adm : (p : Fin 5) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and what the core owes, nothing. -/
abbrev R (c : Dev nD) : sProp 𝕄 := iprop((∃ r, prngReg c r) ∗ ∃ W, owes (c : Thread nD τ) (0 : CellTallies nD τ sig Unit) W)

/-- The buffers at a region's exit: its arrays as the pipeline leaves them, every other as entered. -/
def exitV (p : Fin 5) (W : Dev nD → Valuation τ sig (Elt F)) (d : (c : Dev nD) → Dat τ (Elt F) Unit ℕ (UR sig nD τ) ℕ (cfgs p) c) (c : Dev nD) : Valuation τ sig (Elt F) :=
  Pipeline.withArrays (cfgs p).spec c (W c) fun w => (d c).arrAt w (cfgs p).N
theorem exitV_arr (p : Fin 5) (lf : Pipeline.LaunchFacts (nD := nD) (τ := τ) cfgs p) (W : Dev nD → Valuation τ sig (Elt F))
    (d : (c : Dev nD) → Dat τ (Elt F) Unit ℕ (UR sig nD τ) ℕ (cfgs p) c) (c : Dev nD) (w : Fin (cfgs p).W) :
    exitV p W d c (Proc.devRef .tc (Pipeline.arrRef (cfgs p).spec w)) = (d c).arrAt w (cfgs p).N := by
  unfold exitV; exact Pipeline.withArrays_arr (cfgs p).spec lf.win.arr_inj c _ _ w
theorem exitV_of_ne (p : Fin 5) (W : Dev nD → Valuation τ sig (Elt F)) (d : (c : Dev nD) → Dat τ (Elt F) Unit ℕ (UR sig nD τ) ℕ (cfgs p) c) (c : Dev nD)
    (b : Ref sig .tc) (hb : ∀ w, Pipeline.arrRef (cfgs p).spec w ≠ b) : exitV p W d c (Proc.devRef .tc b) = W c (Proc.devRef .tc b) := by
  unfold exitV; exact Pipeline.withArrays_of_ne (cfgs p).spec c _ _ b hb
theorem exitV_of (p : Fin 5) (lf : Pipeline.LaunchFacts (nD := nD) (τ := τ) cfgs p) (W : Dev nD → Valuation τ sig (Elt F))
    (d : (c : Dev nD) → Dat τ (Elt F) Unit ℕ (UR sig nD τ) ℕ (cfgs p) c) (hA : ∀ c w, (d c).A w = W c (Proc.devRef .tc (Pipeline.arrRef (cfgs p).spec w)))
    (c : Dev nD) (r : Ref sig .tc) (h : ∀ w : Fin (cfgs p).W, Pipeline.arrRef (cfgs p).spec w = r → ((cfgs p).win w).isOut = false) :
    exitV p W d c (Proc.devRef .tc r) = W c (Proc.devRef .tc r) := by
  by_cases hw : ∃ w : Fin (cfgs p).W, Pipeline.arrRef (cfgs p).spec w = r
  · obtain ⟨w, rfl⟩ := hw
    exact (exitV_arr p lf W d c w).trans (((d c).arrAt_in w (h w rfl) _).trans (hA c w))
  · exact exitV_of_ne p W d c r fun w e => hw ⟨w, e⟩

set_option backward.isDefEq.respectTransparency.types false in
/-- A region over "every unscoped buffer at its contents, the register, nothing owed", from the body obligation,
    the arrays at entry and exit, and the invariant against the class's. -/
def mkReg (pd : (p : Fin 5) → (c : Dev nD) → Dat τ (Elt F) Unit ℕ (UR sig nD τ) ℕ (Pipeline.pin (pcfgs (F := F)) adm p) c) (p : Fin 5)
    (lf : Pipeline.LaunchFacts (nD := nD) (τ := τ) cfgs p)
    (hb : ∀ c, BodyObligation (pd p c) (defs₀ (F := F)) Variants.none () Set.univ)
    (howed : ∀ c t, (pd p c).owed t = 0) (hq : ∀ c w, (pd p c).q w = fullShare) (hrec : ∀ c, (pd p c).recorded 0 = Set.univ)
    (Win Wout : Dev nD → Valuation τ sig (Elt F))
    (hA : ∀ c w, (pd p c).A w = Win c (Proc.devRef .tc (Pipeline.arrRef (cfgs p).spec w)))
    (hF : ∀ c w, (pd p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b))
    (hΦ0 : ∀ c, Pipeline.ΦA (cfgs p).spec c ⊢ (pd p c).Φ 0) (hΦN : ∀ c, (pd p c).Φ (Fin.last _) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c (Proc.devRef .tc b))
  hentry c := by
    rw [Pipeline.ownSems0_none]
    have hsplit := Pipeline.arrays_of_unscopedBufs (p := p) (pcfgs (F := F)) adm pd lf.win lf.arr_whole c
      ((pd p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    refine BI.BIBase.Entails.trans ?_ (hΦ0 c)
    unfold Pipeline.ΦA
    iintro ⟨Hp, -, Hr⟩
    isplitl [Hr]; · iexact Hr
    iexact Hp
  hout c := by
    rw [Pipeline.ownSems0_none]
    refine BI.BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Win c (Proc.devRef .tc b)) (fun b => Wout c (Proc.devRef .tc b)) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! # The buffers at each boundary of the program -/

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14]

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a ((ListAll.forall_mem_of_all_decide (by decide +kernel) : ∀ a ∈ argRefs, a ∉ hostOps0_W) a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a ((ListAll.forall_mem_of_all_decide (by decide +kernel) : ∀ a ∈ argRefs, a ∉ hostOps0_1_W) a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a ((ListAll.forall_mem_of_all_decide (by decide +kernel) : ∀ a ∈ argRefs, a ∉ hostOps0_2_W) a ha)).trans (W2_args m ρ c a ha)
def W4 : Dev nD → Valuation τ sig (Elt F) := exitV 0 (W3 m ρ) (dat0 fun c b => W3 m ρ c b)
theorem W4_arr (c : Dev nD) (w : Fin cfg0.W) : W4 m ρ c (Proc.devRef .tc (Pipeline.arrRef spec0 w)) = (dat0 (fun c b => W3 m ρ c b) c).arrAt w cfg0.N :=
  exitV_arr 0 launch0 _ _ c w
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) :=
  exitV_of 0 launch0 _ _ (fun _ _ => by dsimp only [dat0]; rfl) c r h
theorem W4_args (c : Dev nD) : ∀ a ∈ argRefs, W4 m ρ c (Proc.devRef .tc a) = m ((c : Thread nD τ).loc a) :=
  fun a ha => (W4_of m ρ c a ((ListAll.forall_mem_of_all_decide (by decide +kernel) : ∀ a ∈ argRefs, ∀ w : Fin cfg0.W, Pipeline.arrRef spec0 w = a → (cfg0.win w).isOut = false) a ha)).trans (W3_args m ρ c a ha)
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a ((ListAll.forall_mem_of_all_decide (by decide +kernel) : ∀ a ∈ argRefs, a ∉ hostOps1_W) a ha)).trans (W4_args m ρ c a ha)
def W6 : Dev nD → Valuation τ sig (Elt F) := exitV 1 (W5 m ρ) (dat1 fun c b => W5 m ρ c b)
theorem W6_arr (c : Dev nD) (w : Fin cfg1.W) : W6 m ρ c (Proc.devRef .tc (Pipeline.arrRef spec1 w)) = (dat1 (fun c b => W5 m ρ c b) c).arrAt w cfg1.N :=
  exitV_arr 1 launch1 _ _ c w
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) :=
  exitV_of 1 launch1 _ _ (fun _ _ => by dsimp only [dat1]; rfl) c r h
theorem W6_args (c : Dev nD) : ∀ a ∈ argRefs, W6 m ρ c (Proc.devRef .tc a) = m ((c : Thread nD τ).loc a) :=
  fun a ha => (W6_of m ρ c a ((ListAll.forall_mem_of_all_decide (by decide +kernel) : ∀ a ∈ argRefs, ∀ w : Fin cfg1.W, Pipeline.arrRef spec1 w = a → (cfg1.win w).isOut = false) a ha)).trans (W5_args m ρ c a ha)
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a ((ListAll.forall_mem_of_all_decide (by decide +kernel) : ∀ a ∈ argRefs, a ∉ hostOps2_W) a ha)).trans (W6_args m ρ c a ha)
def W8 : Dev nD → Valuation τ sig (Elt F) := exitV 2 (W7 m ρ) (dat2 fun c b => W7 m ρ c b)
theorem W8_arr (c : Dev nD) (w : Fin cfg2.W) : W8 m ρ c (Proc.devRef .tc (Pipeline.arrRef spec2 w)) = (dat2 (fun c b => W7 m ρ c b) c).arrAt w cfg2.N :=
  exitV_arr 2 launch2 _ _ c w
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) :=
  exitV_of 2 launch2 _ _ (fun _ _ => by dsimp only [dat2]; rfl) c r h
theorem W8_args (c : Dev nD) : ∀ a ∈ argRefs, W8 m ρ c (Proc.devRef .tc a) = m ((c : Thread nD τ).loc a) :=
  fun a ha => (W8_of m ρ c a ((ListAll.forall_mem_of_all_decide (by decide +kernel) : ∀ a ∈ argRefs, ∀ w : Fin cfg2.W, Pipeline.arrRef spec2 w = a → (cfg2.win w).isOut = false) a ha)).trans (W7_args m ρ c a ha)
abbrev W9 : Dev nD → Valuation τ sig (Elt F) := fun c => StableHlo.after hostOps3 (W8 m ρ c)
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a ((ListAll.forall_mem_of_all_decide (by decide +kernel) : ∀ a ∈ argRefs, a ∉ hostOps3_W) a ha)).trans (W8_args m ρ c a ha)
def W10 : Dev nD → Valuation τ sig (Elt F) := exitV 3 (W9 m ρ) (dat3 fun c b => W9 m ρ c b)
theorem W10_arr (c : Dev nD) (w : Fin cfg3.W) : W10 m ρ c (Proc.devRef .tc (Pipeline.arrRef spec3 w)) = (dat3 (fun c b => W9 m ρ c b) c).arrAt w cfg3.N :=
  exitV_arr 3 launch3 _ _ c w
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) :=
  exitV_of 3 launch3 _ _ (fun _ _ => by dsimp only [dat3]; rfl) c r h
theorem W10_args (c : Dev nD) : ∀ a ∈ argRefs, W10 m ρ c (Proc.devRef .tc a) = m ((c : Thread nD τ).loc a) :=
  fun a ha => (W10_of m ρ c a ((ListAll.forall_mem_of_all_decide (by decide +kernel) : ∀ a ∈ argRefs, ∀ w : Fin cfg3.W, Pipeline.arrRef spec3 w = a → (cfg3.win w).isOut = false) a ha)).trans (W9_args m ρ c a ha)
abbrev W11 : Dev nD → Valuation τ sig (Elt F) := fun c => StableHlo.after hostOps4 (W10 m ρ c)
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h
theorem W11_args (c : Dev nD) : ∀ a ∈ argRefs, W11 m ρ c (Proc.devRef .tc a) = m ((c : Thread nD τ).loc a) :=
  fun a ha => (W11_of m ρ c a ((ListAll.forall_mem_of_all_decide (by decide +kernel) : ∀ a ∈ argRefs, a ∉ hostOps4_W) a ha)).trans (W10_args m ρ c a ha)
def W12 : Dev nD → Valuation τ sig (Elt F) := exitV 4 (W11 m ρ) (dat4 fun c b => W11 m ρ c b)
theorem W12_arr (c : Dev nD) (w : Fin cfg4.W) : W12 m ρ c (Proc.devRef .tc (Pipeline.arrRef spec4 w)) = (dat4 (fun c b => W11 m ρ c b) c).arrAt w cfg4.N :=
  exitV_arr 4 launch4 _ _ c w
theorem W12_of (c : Dev nD) (r : Ref sig .tc) (h : ∀ w : Fin cfg4.W, Pipeline.arrRef spec4 w = r → (cfg4.win w).isOut = false) :
    W12 m ρ c (Proc.devRef .tc r) = W11 m ρ c (Proc.devRef .tc r) :=
  exitV_of 4 launch4 _ _ (fun _ _ => by dsimp only [dat4]; rfl) c r h
theorem W12_args (c : Dev nD) : ∀ a ∈ argRefs, W12 m ρ c (Proc.devRef .tc a) = m ((c : Thread nD τ).loc a) :=
  fun a ha => (W12_of m ρ c a ((ListAll.forall_mem_of_all_decide (by decide +kernel) : ∀ a ∈ argRefs, ∀ w : Fin cfg4.W, Pipeline.arrRef spec4 w = a → (cfg4.win w).isOut = false) a ha)).trans (W11_args m ρ c a ha)

/-! # The regions and the run -/

/-- Every pipeline's proof data, at its region's entry contents. -/
def pdats : (p : Fin 5) → (c : Dev nD) → Dat τ (Elt F) Unit ℕ (UR sig nD τ) ℕ (Pipeline.pin (pcfgs (F := F)) adm p) c
  | ⟨0, _⟩ => fun c => dat0 (fun c b => W3 m ρ c b) c
  | ⟨1, _⟩ => fun c => dat1 (fun c b => W5 m ρ c b) c
  | ⟨2, _⟩ => fun c => dat2 (fun c b => W7 m ρ c b) c
  | ⟨3, _⟩ => fun c => dat3 (fun c b => W9 m ρ c b) c
  | ⟨4, _⟩ => fun c => dat4 (fun c b => W11 m ρ c b) c

set_option backward.isDefEq.respectTransparency.types false in
def reg0 : Pipeline.RegionSeg (pcfgs (F := F)) adm (pdats m ρ) () defs₀ 𝒱₀ L lv 0 :=
  mkReg (pdats m ρ) 0 launch0 (fun c => obl0 (fun c b => W3 m ρ c b) c) (fun _ _ => rfl) (fun _ _ => rfl) (fun _ => rfl) (W3 m ρ) (W4 m ρ)
    (fun _ _ => rfl) (fun c w => (W4_arr m ρ c w).symm) (fun c b hb => exitV_of_ne 0 _ _ c b fun w e => hb (Finset.mem_image.mpr ⟨w, Finset.mem_univ _, e⟩))
    (fun _ => .rfl) (fun _ => .rfl)
set_option backward.isDefEq.respectTransparency.types false in
def reg1 : Pipeline.RegionSeg (pcfgs (F := F)) adm (pdats m ρ) () defs₀ 𝒱₀ L lv 1 :=
  mkReg (pdats m ρ) 1 launch1 (fun c => obl1 (fun c b => W5 m ρ c b) c) (fun _ _ => rfl) (fun _ _ => rfl) (fun _ => rfl) (W5 m ρ) (W6 m ρ)
    (fun _ _ => rfl) (fun c w => (W6_arr m ρ c w).symm) (fun c b hb => exitV_of_ne 1 _ _ c b fun w e => hb (Finset.mem_image.mpr ⟨w, Finset.mem_univ _, e⟩))
    (fun _ => .rfl) (fun _ => .rfl)
set_option backward.isDefEq.respectTransparency.types false in
def reg2 : Pipeline.RegionSeg (pcfgs (F := F)) adm (pdats m ρ) () defs₀ 𝒱₀ L lv 2 :=
  mkReg (pdats m ρ) 2 launch2 (fun c => obl2 (fun c b => W7 m ρ c b) c) (fun _ _ => rfl) (fun _ _ => rfl) (fun _ => rfl) (W7 m ρ) (W8 m ρ)
    (fun _ _ => rfl) (fun c w => (W8_arr m ρ c w).symm) (fun c b hb => exitV_of_ne 2 _ _ c b fun w e => hb (Finset.mem_image.mpr ⟨w, Finset.mem_univ _, e⟩))
    (fun _ => .rfl) (fun c => phi2_out (fun c b => W7 m ρ c b) c)
set_option backward.isDefEq.respectTransparency.types false in
def reg3 : Pipeline.RegionSeg (pcfgs (F := F)) adm (pdats m ρ) () defs₀ 𝒱₀ L lv 3 :=
  mkReg (pdats m ρ) 3 launch3 (fun c => obl3 (fun c b => W9 m ρ c b) c) (fun _ _ => rfl) (fun _ _ => rfl) (fun _ => rfl) (W9 m ρ) (W10 m ρ)
    (fun _ _ => rfl) (fun c w => (W10_arr m ρ c w).symm) (fun c b hb => exitV_of_ne 3 _ _ c b fun w e => hb (Finset.mem_image.mpr ⟨w, Finset.mem_univ _, e⟩))
    (fun _ => .rfl) (fun c => phi3_out (fun c b => W9 m ρ c b) c)
set_option backward.isDefEq.respectTransparency.types false in
def reg4 : Pipeline.RegionSeg (pcfgs (F := F)) adm (pdats m ρ) () defs₀ 𝒱₀ L lv 4 :=
  mkReg (pdats m ρ) 4 launch4 (fun c => obl4 (fun c b => W11 m ρ c b) c) (fun _ _ => rfl) (fun _ _ => rfl) (fun _ => rfl) (W11 m ρ) (W12 m ρ)
    (fun _ _ => rfl) (fun c w => (W12_arr m ρ c w).symm) (fun c b hb => exitV_of_ne 4 _ _ c b fun w e => hb (Finset.mem_image.mpr ⟨w, Finset.mem_univ _, e⟩))
    (fun _ => .rfl) (fun _ => .rfl)

/-- The program's segments, in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]
theorem main_run (c : Dev nD) : main (F := F) c = Pipeline.Seg.run (segs m ρ) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem no_unscoped : ∀ sm : SemLoc sig, sm.isScoped .tc = true := by decide
/-- The last state, without what the core owes. -/
abbrev Tₙ (c : Dev nD) : sProp 𝕄 := iprop(StableHlo.held (c : Thread nD τ) (Pipeline.ucRefs τ sig) (W12 m ρ c) ∗ ∃ r, prngReg c r)

set_option backward.isDefEq.respectTransparency.types false in
/-- Every execution ends with every unscoped buffer at the last boundary's contents and every semaphore at zero. -/
theorem run : θ_run defs (onTc (τ := τ) (main (F := F))) ⟨m, fun _ => 0, ρ⟩ (fun r => (∀ c : Dev nD, ∀ b ∈ Pipeline.ucRefs τ sig, r.2.mem (((c : Thread nD τ)).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

/-- An argument ends as launched. -/
theorem arg_end {mem : (ℓ : Loc nD τ sig) → Buf (Elt F) ℓ} (c : Dev nD) (h : ∀ b ∈ Pipeline.ucRefs τ sig, mem (((c : Thread nD τ)).1, b) = W12 m ρ c b)
    (a : Ref sig .tc) (ha : a ∈ argRefs) (hs : ¬ (Proc.devRef .tc a : DevRef τ sig).isScoped) :
    mem ((c.tc : Thread nD τ).loc a) = m ((c.tc : Thread nD τ).loc a) :=
  (h _ (mem_uc a hs)).trans (W12_args m ρ c a ha)

end Cert.KernelIdeal.Run
end
-- ==== Proof.Frames.lean ====
/- The three frames. The idealized kernel's comes from its whole-program run; the kernel is the same text under another
   name, so its frame is the same proposition; the reference's is read off its run. -/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Lib.Tactic
public import Idealize.ShloMosaic.Lib.Pipeline.FrameBody

@[expose] public section

set_option maxRecDepth 65536

noncomputable section

namespace Cert.Proof

open Idealize.ShloMosaic Idealize.SL.Sem

variable {F : FTy → Type} [FloatOps F]

/-- The frame of the idealized kernel, at any float instance. -/
def QI (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)
/-- The frame of the kernel, at any float instance. -/
def QK (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)
/-- The two programs are one text, so the two frames are one proposition. -/
theorem Q_eq (F : FTy → Type) [FloatOps F] : QI F = QK F := by sl_kernel_rfl

/-- The idealized kernel leaves its arguments and every semaphore. -/
theorem ki (F : FTy → Type) [FloatOps F] : QI F := fun m g =>
  (θ_run _ _ _).mono (fun r h => ⟨fun c => by
    refine ⟨?_, ?_, ?_, ?_, ?_, ?_, ?_, ?_, ?_, ?_, ?_, ?_, ?_, ?_, ?_⟩ <;>
      exact Cert.KernelIdeal.Run.arg_end m g c (h.1 c) _ (by decide) (by decide), h.2⟩) (Cert.KernelIdeal.Run.run m g)

theorem frame_kernel : Cert.quiescent_Kernel := fun m g _ => (Q_eq Bits ▸ ki Bits : QK Bits) m g

theorem frame_ideal : Cert.quiescent_KernelIdeal := fun m g _ => ki Ideal m g

theorem frame_reference : Cert.quiescent_ReferenceIdeal := fun m g _ =>
  (θ_run _ _ _).mono (fun r h => ⟨fun c => (h c).2, sem_eq_zero_of_no_sems (by decide) _⟩) (Cert.ReferenceIdeal.Value.run m g)

end Cert.Proof
end
-- ==== Proof.Values.lean ====
/- What each call of the idealized kernel leaves in its results, as a function of the arrays it reads; then the program's
   result as a function of its arguments. -/
module

public import proofs.«01_k».proof.Proof.Run
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Reading through an embedding that keeps every coordinate is reading. -/
theorem read_same {S : Shape} {α : Type} (f : S.Idx → α) (e : S.Idx → S.Idx) (h : ∀ y a, (e y a : ℕ) = y a) : (fun y => f (e y)) = f :=
  funext fun y => congrArg f (funext fun a => Fin.ext (h y a))

section
variable (V : (c : Dev nD) → (b : Ref sig .tc) → Buf (Elt F) ((c : Thread nD τ).loc b))

/-! # Call 0: one grid point, every window its whole array -/

theorem in0_0 (c : Dev nD) (t) : (iblk0 V c 0 t : Vec F S1024x1024 .f32) = V c main_v3 :=
  read_same (V c main_v3) _ fun y a => Pipeline.Window.rect_emb_val_of_index_zero win0_0 t a rfl y
theorem in0_1 (c : Dev nD) (t) : (iblk0 V c 1 t : Vec F S1024x1024 .f32) = V c main_v6 :=
  read_same (V c main_v6) _ fun y a => Pipeline.Window.rect_emb_val_of_index_zero win0_1 t a rfl y
theorem in0_2 (c : Dev nD) (t) : (iblk0 V c 2 t : Vec F S512x4096 .bf16) = V c main_v10 :=
  read_same (V c main_v10) _ fun y a => Pipeline.Window.rect_emb_val_of_index_zero win0_2 t a rfl y
theorem in0_3 (c : Dev nD) (t) : (iblk0 V c 3 t : Vec F S1x1 .f32) = V c main_v7 :=
  read_same (V c main_v7) _ fun y a => Pipeline.Window.rect_emb_val_of_index_zero win0_3 t a rfl y
theorem out0_4 (c : Dev nD) : (dat0 V c).arrAt 4 cfg0.N = Gate.outU (V c main_v3) (V c main_v6) (V c main_v10) (V c main_v7) := by
  refine Dat.arrAt_eq_of_cover (dat0 V c) 4 _ (fun t ht => ?_) (fun i => ⟨t0_0, flush0_4 t0_0, ?_⟩)
  · refine Eq.trans ?_ (read_same (Gate.outU (V c main_v3) (V c main_v6) (V c main_v10) (V c main_v7)) _ fun y a => Pipeline.Window.rect_emb_val_of_index_zero win0_4 t a rfl y).symm
    show Gate.outU (iblk0 V c 0 t) (iblk0 V c 1 t) (iblk0 V c 2 t) (iblk0 V c 3 t) = _
    rw [in0_0, in0_1, in0_2, in0_3]
  · exact Finset.mem_map.mpr ⟨i, Finset.mem_univ _, funext fun a => Fin.ext (Pipeline.Window.rect_emb_val_of_index_zero win0_4 t0_0 a rfl i)⟩
theorem out0_5 (c : Dev nD) : (dat0 V c).arrAt 5 cfg0.N = Gate.outFire (V c main_v3) (V c main_v6) := by
  refine Dat.arrAt_eq_of_cover (dat0 V c) 5 _ (fun t ht => ?_) (fun i => ⟨t0_0, flush0_5 t0_0, ?_⟩)
  · refine Eq.trans ?_ (read_same (Gate.outFire (V c main_v3) (V c main_v6)) _ fun y a => Pipeline.Window.rect_emb_val_of_index_zero win0_5 t a rfl y).symm
    show Gate.outFire (iblk0 V c 0 t) (iblk0 V c 1 t) = _
    rw [in0_0, in0_1]
  · exact Finset.mem_map.mpr ⟨i, Finset.mem_univ _, funext fun a => Fin.ext (Pipeline.Window.rect_emb_val_of_index_zero win0_5 t0_0 a rfl i)⟩

/-! # Call 1: one grid point, every window its whole array -/

theorem in1_0 (c : Dev nD) (t) : (iblk1 V c 0 t : Vec F S1024x1024 .f32) = V c main_v3 :=
  read_same (V c main_v3) _ fun y a => Pipeline.Window.rect_emb_val_of_index_zero win1_0 t a rfl y
theorem in1_1 (c : Dev nD) (t) : (iblk1 V c 1 t : Vec F S1024x1024 .f32) = V c main_v6 :=
  read_same (V c main_v6) _ fun y a => Pipeline.Window.rect_emb_val_of_index_zero win1_1 t a rfl y
theorem in1_2 (c : Dev nD) (t) : (iblk1 V c 2 t : Vec F S512x4096 .bf16) = V c main_v13 :=
  read_same (V c main_v13) _ fun y a => Pipeline.Window.rect_emb_val_of_index_zero win1_2 t a rfl y
theorem in1_3 (c : Dev nD) (t) : (iblk1 V c 3 t : Vec F S1x1 .f32) = V c main_v8 :=
  read_same (V c main_v8) _ fun y a => Pipeline.Window.rect_emb_val_of_index_zero win1_3 t a rfl y
theorem out1_4 (c : Dev nD) : (dat1 V c).arrAt 4 cfg1.N = Gate.outU (V c main_v3) (V c main_v6) (V c main_v13) (V c main_v8) := by
  refine Dat.arrAt_eq_of_cover (dat1 V c) 4 _ (fun t ht => ?_) (fun i => ⟨t1_0, flush1_4 t1_0, ?_⟩)
  · refine Eq.trans ?_ (read_same (Gate.outU (V c main_v3) (V c main_v6) (V c main_v13) (V c main_v8)) _ fun y a => Pipeline.Window.rect_emb_val_of_index_zero win1_4 t a rfl y).symm
    show Gate.outU (iblk1 V c 0 t) (iblk1 V c 1 t) (iblk1 V c 2 t) (iblk1 V c 3 t) = _
    rw [in1_0, in1_1, in1_2, in1_3]
  · exact Finset.mem_map.mpr ⟨i, Finset.mem_univ _, funext fun a => Fin.ext (Pipeline.Window.rect_emb_val_of_index_zero win1_4 t1_0 a rfl i)⟩
theorem out1_5 (c : Dev nD) : (dat1 V c).arrAt 5 cfg1.N = Gate.outFire (V c main_v3) (V c main_v6) := by
  refine Dat.arrAt_eq_of_cover (dat1 V c) 5 _ (fun t ht => ?_) (fun i => ⟨t1_0, flush1_5 t1_0, ?_⟩)
  · refine Eq.trans ?_ (read_same (Gate.outFire (V c main_v3) (V c main_v6)) _ fun y a => Pipeline.Window.rect_emb_val_of_index_zero win1_5 t a rfl y).symm
    show Gate.outFire (iblk1 V c 0 t) (iblk1 V c 1 t) = _
    rw [in1_0, in1_1]
  · exact Finset.mem_map.mpr ⟨i, Finset.mem_univ _, funext fun a => Fin.ext (Pipeline.Window.rect_emb_val_of_index_zero win1_5 t1_0 a rfl i)⟩

/-! # Call 4: one grid point, every window its whole array -/

theorem in4_0 (c : Dev nD) (t) : (iblk4 V c 0 t : Vec F S2x4096 .f32) = V c main_v19 :=
  read_same (V c main_v19) _ fun y a => Pipeline.Window.rect_emb_val_of_index_zero win4_0 t a rfl y
theorem in4_1 (c : Dev nD) (t) : (iblk4 V c 1 t : Vec F S2x4096 .f32) = V c main_v23 :=
  read_same (V c main_v23) _ fun y a => Pipeline.Window.rect_emb_val_of_index_zero win4_1 t a rfl y
theorem in4_2 (c : Dev nD) (t) : (iblk4 V c 2 t : Vec F S4096x512 .f32) = V c main_v24 :=
  read_same (V c main_v24) _ fun y a => Pipeline.Window.rect_emb_val_of_index_zero win4_2 t a rfl y
theorem in4_3 (c : Dev nD) (t) : (iblk4 V c 3 t : Vec F S4096x512 .f32) = V c main_v25 :=
  read_same (V c main_v25) _ fun y a => Pipeline.Window.rect_emb_val_of_index_zero win4_3 t a rfl y
theorem in4_4 (c : Dev nD) (t) : (iblk4 V c 4 t : Vec F S2x1024 .f32) = V c main_v27 :=
  read_same (V c main_v27) _ fun y a => Pipeline.Window.rect_emb_val_of_index_zero win4_4 t a rfl y
theorem in4_5 (c : Dev nD) (t) : (iblk4 V c 5 t : Vec F S1024x1 .f32) = V c main_v28 :=
  read_same (V c main_v28) _ fun y a => Pipeline.Window.rect_emb_val_of_index_zero win4_5 t a rfl y
theorem in4_6 (c : Dev nD) (t) : (iblk4 V c 6 t : Vec F S1x1 .f32) = V c main_v29 :=
  read_same (V c main_v29) _ fun y a => Pipeline.Window.rect_emb_val_of_index_zero win4_6 t a rfl y
theorem in4_7 (c : Dev nD) (t) : (iblk4 V c 7 t : Vec F S1024x1024 .f32) = V c main_v30 :=
  read_same (V c main_v30) _ fun y a => Pipeline.Window.rect_emb_val_of_index_zero win4_7 t a rfl y
theorem in4_8 (c : Dev nD) (t) : (iblk4 V c 8 t : Vec F S1x1024 .f32) = V c main_v31 :=
  read_same (V c main_v31) _ fun y a => Pipeline.Window.rect_emb_val_of_index_zero win4_8 t a rfl y
theorem in4_9 (c : Dev nD) (t) : (iblk4 V c 9 t : Vec F S1x1024 .f32) = V c main_v32 :=
  read_same (V c main_v32) _ fun y a => Pipeline.Window.rect_emb_val_of_index_zero win4_9 t a rfl y
theorem in4_10 (c : Dev nD) (t) : (iblk4 V c 10 t : Vec F S1x1024 .f32) = V c main_v33 :=
  read_same (V c main_v33) _ fun y a => Pipeline.Window.rect_emb_val_of_index_zero win4_10 t a rfl y
theorem out4_11 (c : Dev nD) : (dat4 V c).arrAt 11 cfg4.N = Resv.outV (V c main_v19) (V c main_v23) (V c main_v24) (V c main_v25) (V c main_v27) (V c main_v28) (V c main_v29) (V c main_v30) (V c main_v31) (V c main_v32) (V c main_v33) := by
  refine Dat.arrAt_eq_of_cover (dat4 V c) 11 _ (fun t ht => ?_) (fun i => ⟨t4_0, flush4_11 t4_0, ?_⟩)
  · refine Eq.trans ?_ (read_same (Resv.outV (V c main_v19) (V c main_v23) (V c main_v24) (V c main_v25) (V c main_v27) (V c main_v28) (V c main_v29) (V c main_v30) (V c main_v31) (V c main_v32) (V c main_v33)) _ fun y a => Pipeline.Window.rect_emb_val_of_index_zero win4_11 t a rfl y).symm
    show Resv.outV (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) = _
    rw [in4_0, in4_1, in4_2, in4_3, in4_4, in4_5, in4_6, in4_7, in4_8, in4_9, in4_10]
  · exact Finset.mem_map.mpr ⟨i, Finset.mem_univ _, funext fun a => Fin.ext (Pipeline.Window.rect_emb_val_of_index_zero win4_11 t4_0 a rfl i)⟩

/-! # The reservoir calls: at point `t` the two rows of step `t`; the state written back at the last point -/

/-- The two rows of step `n`. -/
def rowU (u : Vec F S1024x4096 .bf16) (n : ℕ) : Vec F S1x2x4096 .bf16 := fun y =>
  u (ix2 (⟨(2 * n + (y 1).val) % 1024, Nat.mod_lt _ (by omega)⟩ : Fin 1024) (y 2))
def rowF (f : Vec F S1024x1 .f32) (n : ℕ) : Vec F S1x2x1 .f32 := fun y =>
  f (ix2 (⟨(2 * n + (y 1).val) % 1024, Nat.mod_lt _ (by omega)⟩ : Fin 1024) (y 2))

theorem rowU_of (u : Vec F S1024x4096 .bf16) (n : Fin 512) (y : S1x2x4096.Idx) :
    shapeCast S512x2x4096 u shapeCasts_S1024x4096_S512x2x4096 (ix3 n (y 1) (y 2)) = rowU u n.val y := by
  refine shapeCast_apply u _ _ _ ?_
  rw [Shape.rowMajor_val_two, Shape.rowMajor_val_three]
  have h1 : (y 1).val < 2 := (y 1).isLt
  show ((2 * n.val + (y 1).val) % 1024) * 4096 + (y 2).val = (n.val * 2 + (y 1).val) * 4096 + (y 2).val
  have hn := n.isLt
  omega
theorem rowF_of (f : Vec F S1024x1 .f32) (n : Fin 512) (y : S1x2x1.Idx) :
    shapeCast S512x2x1 f shapeCasts_S1024x1_S512x2x1 (ix3 n (y 1) (y 2)) = rowF f n.val y := by
  refine shapeCast_apply f _ _ _ ?_
  rw [Shape.rowMajor_val_two, Shape.rowMajor_val_three]
  have h1 : (y 1).val < 2 := (y 1).isLt
  show ((2 * n.val + (y 1).val) % 1024) * 1 + (y 2).val = (n.val * 2 + (y 1).val) * 1 + (y 2).val
  have hn := n.isLt
  omega

/-- The state before step `n`. -/
def trail (w : Vec F S4096x4096 .bf16) (u : Vec F S1024x4096 .bf16) (f : Vec F S1024x1 .f32) : ℕ → Vec F S2x4096 .f32
  | 0 => Resv.h0
  | n + 1 => Resv.step (trail w u f n) w (rowU u n) (rowF f n)

theorem in2_0 (c : Dev nD) (t) : (iblk2 V c 0 t : Vec F S4096x4096 .bf16) = V c main_v17 :=
  read_same (V c main_v17) _ fun y a => Pipeline.Window.rect_emb_val_of_index_zero win2_0 t a (by fin_cases a <;> rfl) y
theorem coord2 (t : Fin cfg2.N) : (BitVec.ofNat 32 (grid2.coords t 0).val).toNat = t.val := by
  have ht : t.val < 512 := Nat.lt_of_lt_of_eq t.isLt N_2
  have e0 : (grid2.coords t 0).val = t.val / 1 % 512 := Pipeline.Grid.coords_val t 0 (by decide) rfl
  rw [e0, BitVec.toNat_ofNat]; omega
theorem in2_1 (c : Dev nD) (u : Vec F S1024x4096 .bf16) (h : V c main_v18 = shapeCast S512x2x4096 u shapeCasts_S1024x4096_S512x2x4096) (t : Fin cfg2.N) :
    (iblk2 V c 1 t : Vec F S1x2x4096 .bf16) = rowU u t.val := by
  have ht : t.val < 512 := Nat.lt_of_lt_of_eq t.isLt N_2
  funext y
  have e : (iblk2 V c 1 t : Vec F S1x2x4096 .bf16) y = V c main_v18 (ix3 (⟨t.val, ht⟩ : Fin 512) (y 1) (y 2)) :=
    congrArg (V c main_v18) (funext fun a => Fin.ext (by
      refine (Pipeline.Window.rect_emb_val win2_1 t y a).trans ?_
      have h0 : (y 0).val < 1 := (y 0).isLt
      fin_cases a
      · show (BitVec.ofNat 32 (grid2.coords t 0).val).toNat * 1 + (y 0).val = t.val
        rw [coord2]; omega
      · show 0 * 2 + (y 1).val = (y 1).val
        omega
      · show 0 * 4096 + (y 2).val = (y 2).val
        omega))
  rw [e, h]
  exact rowU_of u ⟨t.val, ht⟩ y
theorem in2_2 (c : Dev nD) (f : Vec F S1024x1 .f32) (h : V c main_v15 = shapeCast S512x2x1 f shapeCasts_S1024x1_S512x2x1) (t : Fin cfg2.N) :
    (iblk2 V c 2 t : Vec F S1x2x1 .f32) = rowF f t.val := by
  have ht : t.val < 512 := Nat.lt_of_lt_of_eq t.isLt N_2
  funext y
  have e : (iblk2 V c 2 t : Vec F S1x2x1 .f32) y = V c main_v15 (ix3 (⟨t.val, ht⟩ : Fin 512) (y 1) (y 2)) :=
    congrArg (V c main_v15) (funext fun a => Fin.ext (by
      refine (Pipeline.Window.rect_emb_val win2_2 t y a).trans ?_
      have h0 : (y 0).val < 1 := (y 0).isLt
      fin_cases a
      · show (BitVec.ofNat 32 (grid2.coords t 0).val).toNat * 1 + (y 0).val = t.val
        rw [coord2]; omega
      · show 0 * 2 + (y 1).val = (y 1).val
        omega
      · show 0 * 1 + (y 2).val = (y 2).val
        omega))
  rw [e, h]
  exact rowF_of f ⟨t.val, ht⟩ y
theorem hAt2_eq (c : Dev nD) (u : Vec F S1024x4096 .bf16) (f : Vec F S1024x1 .f32) (hu : V c main_v18 = shapeCast S512x2x4096 u shapeCasts_S1024x4096_S512x2x4096)
    (hf : V c main_v15 = shapeCast S512x2x1 f shapeCasts_S1024x1_S512x2x1) : ∀ n, n ≤ 512 → hAt2 V c n = trail (V c main_v17) u f n
  | 0, _ => rfl
  | n + 1, hn => by
    rw [← hAt2_step V c ⟨n, by rw [show cfg2.N = 512 from N_2]; omega⟩, in2_0, in2_1 V c u hu, in2_2 V c f hf, hAt2_eq c u f hu hf n (by omega)]
    rfl
theorem out2_3 (c : Dev nD) (u : Vec F S1024x4096 .bf16) (f : Vec F S1024x1 .f32) (hu : V c main_v18 = shapeCast S512x2x4096 u shapeCasts_S1024x4096_S512x2x4096)
    (hf : V c main_v15 = shapeCast S512x2x1 f shapeCasts_S1024x1_S512x2x1) : (dat2 V c).arrAt 3 cfg2.N = trail (V c main_v17) u f 512 := by
  have hz : ∀ (t : Fin cfg2.N) (a) (y), ((win2_3.rect t).emb y a : ℕ) = y a := fun t a y =>
    Pipeline.Window.rect_emb_val_of_index_zero win2_3 t a (by fin_cases a <;> rfl) y
  refine Dat.arrAt_eq_of_cover (dat2 V c) 3 _ (fun t ht => ?_) (fun i => ⟨⟨511, by rw [show cfg2.N = 512 from N_2]; omega⟩, (flush2_3 _).mpr rfl, ?_⟩)
  · have hl : t.val = 511 := by
      have := (flush2_3 t).mp ht
      have ht : t.val < 512 := Nat.lt_of_lt_of_eq t.isLt N_2
      omega
    refine Eq.trans ?_ (read_same (trail (V c main_v17) u f 512) _ fun y a => hz t a y).symm
    show hAt2 V c (t.val + 1) = _
    rw [hl, hAt2_eq V c u f hu hf _ (le_refl _)]
  · exact Finset.mem_map.mpr ⟨i, Finset.mem_univ _, funext fun a => Fin.ext (hz _ a i)⟩

theorem in3_0 (c : Dev nD) (t) : (iblk3 V c 0 t : Vec F S4096x4096 .bf16) = V c main_v21 :=
  read_same (V c main_v21) _ fun y a => Pipeline.Window.rect_emb_val_of_index_zero win3_0 t a (by fin_cases a <;> rfl) y
theorem coord3 (t : Fin cfg3.N) : (BitVec.ofNat 32 (grid3.coords t 0).val).toNat = t.val := by
  have ht : t.val < 512 := Nat.lt_of_lt_of_eq t.isLt N_3
  have e0 : (grid3.coords t 0).val = t.val / 1 % 512 := Pipeline.Grid.coords_val t 0 (by decide) rfl
  rw [e0, BitVec.toNat_ofNat]; omega
theorem in3_1 (c : Dev nD) (u : Vec F S1024x4096 .bf16) (h : V c main_v22 = shapeCast S512x2x4096 u shapeCasts_S1024x4096_S512x2x4096) (t : Fin cfg3.N) :
    (iblk3 V c 1 t : Vec F S1x2x4096 .bf16) = rowU u t.val := by
  have ht : t.val < 512 := Nat.lt_of_lt_of_eq t.isLt N_3
  funext y
  have e : (iblk3 V c 1 t : Vec F S1x2x4096 .bf16) y = V c main_v22 (ix3 (⟨t.val, ht⟩ : Fin 512) (y 1) (y 2)) :=
    congrArg (V c main_v22) (funext fun a => Fin.ext (by
      refine (Pipeline.Window.rect_emb_val win3_1 t y a).trans ?_
      have h0 : (y 0).val < 1 := (y 0).isLt
      fin_cases a
      · show (BitVec.ofNat 32 (grid3.coords t 0).val).toNat * 1 + (y 0).val = t.val
        rw [coord3]; omega
      · show 0 * 2 + (y 1).val = (y 1).val
        omega
      · show 0 * 4096 + (y 2).val = (y 2).val
        omega))
  rw [e, h]
  exact rowU_of u ⟨t.val, ht⟩ y
theorem in3_2 (c : Dev nD) (f : Vec F S1024x1 .f32) (h : V c main_v15 = shapeCast S512x2x1 f shapeCasts_S1024x1_S512x2x1) (t : Fin cfg3.N) :
    (iblk3 V c 2 t : Vec F S1x2x1 .f32) = rowF f t.val := by
  have ht : t.val < 512 := Nat.lt_of_lt_of_eq t.isLt N_3
  funext y
  have e : (iblk3 V c 2 t : Vec F S1x2x1 .f32) y = V c main_v15 (ix3 (⟨t.val, ht⟩ : Fin 512) (y 1) (y 2)) :=
    congrArg (V c main_v15) (funext fun a => Fin.ext (by
      refine (Pipeline.Window.rect_emb_val win3_2 t y a).trans ?_
      have h0 : (y 0).val < 1 := (y 0).isLt
      fin_cases a
      · show (BitVec.ofNat 32 (grid3.coords t 0).val).toNat * 1 + (y 0).val = t.val
        rw [coord3]; omega
      · show 0 * 2 + (y 1).val = (y 1).val
        omega
      · show 0 * 1 + (y 2).val = (y 2).val
        omega))
  rw [e, h]
  exact rowF_of f ⟨t.val, ht⟩ y
theorem hAt3_eq (c : Dev nD) (u : Vec F S1024x4096 .bf16) (f : Vec F S1024x1 .f32) (hu : V c main_v22 = shapeCast S512x2x4096 u shapeCasts_S1024x4096_S512x2x4096)
    (hf : V c main_v15 = shapeCast S512x2x1 f shapeCasts_S1024x1_S512x2x1) : ∀ n, n ≤ 512 → hAt3 V c n = trail (V c main_v21) u f n
  | 0, _ => rfl
  | n + 1, hn => by
    rw [← hAt3_step V c ⟨n, by rw [show cfg3.N = 512 from N_3]; omega⟩, in3_0, in3_1 V c u hu, in3_2 V c f hf, hAt3_eq c u f hu hf n (by omega)]
    rfl
theorem out3_3 (c : Dev nD) (u : Vec F S1024x4096 .bf16) (f : Vec F S1024x1 .f32) (hu : V c main_v22 = shapeCast S512x2x4096 u shapeCasts_S1024x4096_S512x2x4096)
    (hf : V c main_v15 = shapeCast S512x2x1 f shapeCasts_S1024x1_S512x2x1) : (dat3 V c).arrAt 3 cfg3.N = trail (V c main_v21) u f 512 := by
  have hz : ∀ (t : Fin cfg3.N) (a) (y), ((win3_3.rect t).emb y a : ℕ) = y a := fun t a y =>
    Pipeline.Window.rect_emb_val_of_index_zero win3_3 t a (by fin_cases a <;> rfl) y
  refine Dat.arrAt_eq_of_cover (dat3 V c) 3 _ (fun t ht => ?_) (fun i => ⟨⟨511, by rw [show cfg3.N = 512 from N_3]; omega⟩, (flush3_3 _).mpr rfl, ?_⟩)
  · have hl : t.val = 511 := by
      have := (flush3_3 t).mp ht
      have ht : t.val < 512 := Nat.lt_of_lt_of_eq t.isLt N_3
      omega
    refine Eq.trans ?_ (read_same (trail (V c main_v21) u f 512) _ fun y a => hz t a y).symm
    show hAt3 V c (t.val + 1) = _
    rw [hl, hAt3_eq V c u f hu hf _ (le_refl _)]
  · exact Finset.mem_map.mpr ⟨i, Finset.mem_univ _, funext fun a => Fin.ext (hz _ a i)⟩

end

end Cert.KernelIdeal.Run
end
-- ==== Proof.KernelValue.lean ====
/- The idealized kernel's result as a function of its arguments. -/
module

public import proofs.«01_k».proof.Proof.Values
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The host's arrays -/

/-- The hidden rows of the write phase, time-major, two zero rows after them. -/
def hiddenRows (x : Vec F S2x512x1024 .f32) : Vec F S1024x1024 .f32 :=
  pad S1024x1024 ![0, 0] ![2, 0] ![0, 0] (shapeCast S1022x1024 (transpose S511x2x1024 [1, 0, 2]
    (extractStridedSlice S2x511x1024 ![0, 0, 0] x slices_S2x512x1024_S2x511x1024_0_0_0) transposes_S2x511x1024_S511x2x1024_1_0_2) shapeCasts_S511x2x1024_S1022x1024)
    (sitofp .f32 (constantI S_ 32 0#32)) pads_S1022x1024_S1024x1024_020_000 h_S_
/-- The key weights of the two branches, side by side. -/
def keyW (a b : Vec F S512x1024 .f32) : Vec F S1024x1024 .f32 :=
  concatenate S1024x1024 1 [⟨S1024x512, transpose S1024x512 [1, 0] a transposes_S512x1024_S1024x512_1_0⟩,
    ⟨S1024x512, transpose S1024x512 [1, 0] b transposes_S512x1024_S1024x512_1_0⟩] concatenates_S1024x512_S1024x512_S1024x1024_d1
def inW (a : Vec F S4096x512 .f32) : Vec F S512x4096 .bf16 := truncf .bf16 (transpose S512x4096 [1, 0] a transposes_S4096x512_S512x4096_1_0) bitsLt_bf16_f32
def resW (a : Vec F S4096x4096 .f32) : Vec F S4096x4096 .bf16 := truncf .bf16 (transpose S4096x4096 [1, 0] a transposes_S4096x4096_S4096x4096_1_0) bitsLt_bf16_f32
def selS : Vec F S1x1 .f32 := broadcastInDim S1x1 ![] bcast_S_S1x1 (constant S_ .f32 0x3F800000#32)
def selE : Vec F S1x1 .f32 := broadcastInDim S1x1 ![] bcast_S_S1x1 (constant S_ .f32 0x00000000#32)
def outW (a : Vec F S512x4096 .f32) : Vec F S4096x512 .f32 := transpose S4096x512 [1, 0] a transposes_S512x4096_S4096x512_1_0
def query (x : Vec F S2x512x1024 .f32) : Vec F S2x1024 .f32 :=
  shapeCast S2x1024 (extractStridedSlice S2x1x1024 ![0, 511, 0] x slices_S2x512x1024_S2x1x1024_0_511_0) shapeCasts_S2x1x1024_S2x1024
def rowOfVec (a : Vec F S1024 .f32) : Vec F S1x1024 .f32 := shapeCast S1x1024 a shapeCasts_S1024_S1x1024

/-- The input drive of a branch and the fire bits. -/
def drive (x : Vec F S2x512x1024 .f32) (a1 a2 : Vec F S512x1024 .f32) (w : Vec F S4096x512 .f32) (sel : Vec F S1x1 .f32) : Vec F S1024x4096 .bf16 :=
  Gate.outU (hiddenRows x) (keyW a1 a2) (inW w) sel
def fires (x : Vec F S2x512x1024 .f32) (a1 a2 : Vec F S512x1024 .f32) : Vec F S1024x1 .f32 := Gate.outFire (hiddenRows x) (keyW a1 a2)

/-- The last state of the semantic branch, and of the episodic branch. -/
def lastS (x : Vec F S2x512x1024 .f32) (a1 a2 : Vec F S512x1024 .f32) (a11 : Vec F S4096x4096 .f32) (a12 : Vec F S4096x512 .f32) : Vec F S2x4096 .f32 :=
  trail (resW a11) (drive x a1 a2 a12 selS) (fires x a1 a2) 512
def lastE (x : Vec F S2x512x1024 .f32) (a1 a2 : Vec F S512x1024 .f32) (a13 : Vec F S4096x4096 .f32) (a14 : Vec F S4096x512 .f32) : Vec F S2x4096 .f32 :=
  trail (resW a13) (drive x a1 a2 a14 selE) (fires x a1 a2) 512

variable (m : (ℓ : Loc nD τ sig) → Buf (Elt F) ℓ) (ρ : Dev nD → PrngReg) (c : Dev nD)

abbrev arg (b : Ref sig .tc) : Buf (Elt F) ((c.tc : Thread nD τ).loc b) := m ((c.tc : Thread nD τ).loc b)

theorem at3_v3 : W3 m ρ c main_v3 = hiddenRows (arg m c main_arg0) := by
  rw [W3_of m ρ c main_v3 (by decide)]
  unfold hiddenRows
  after_results
  rfl
theorem at3_v6 : W3 m ρ c main_v6 = keyW (arg m c main_arg1) (arg m c main_arg2) := by
  unfold keyW
  after_results
theorem at3_v10 : W3 m ρ c main_v10 = inW (arg m c main_arg12) := by
  unfold inW
  after_results
theorem at3_v7 : W3 m ρ c main_v7 = selS := by
  unfold selS
  after_results
theorem at3_v8 : W3 m ρ c main_v8 = selE := by
  unfold selE
  after_results

theorem at4_u : W4 m ρ c main_v11_0 = drive (arg m c main_arg0) (arg m c main_arg1) (arg m c main_arg2) (arg m c main_arg12) selS := by
  refine (W4_arr m ρ c 4).trans ((out0_4 _ c).trans ?_)
  rw [at3_v3, at3_v6, at3_v10, at3_v7]; rfl
theorem at4_f : W4 m ρ c main_v11_1 = fires (arg m c main_arg0) (arg m c main_arg1) (arg m c main_arg2) := by
  refine (W4_arr m ρ c 5).trans ((out0_5 _ c).trans ?_)
  rw [at3_v3, at3_v6]; rfl

theorem at5_v3 : W5 m ρ c main_v3 = hiddenRows (arg m c main_arg0) := by
  rw [W5_of m ρ c main_v3 (by decide), W4_of m ρ c main_v3 (by decide), at3_v3]
theorem at5_v6 : W5 m ρ c main_v6 = keyW (arg m c main_arg1) (arg m c main_arg2) := by
  rw [W5_of m ρ c main_v6 (by decide), W4_of m ρ c main_v6 (by decide), at3_v6]
theorem at5_v8 : W5 m ρ c main_v8 = selE := by
  rw [W5_of m ρ c main_v8 (by decide), W4_of m ρ c main_v8 (by decide), at3_v8]
theorem at5_v13 : W5 m ρ c main_v13 = inW (arg m c main_arg14) := by
  unfold inW
  after_results
  rw [W4_args m ρ c main_arg14 (by decide)]
theorem at6_u : W6 m ρ c main_v14_0 = drive (arg m c main_arg0) (arg m c main_arg1) (arg m c main_arg2) (arg m c main_arg14) selE := by
  refine (W6_arr m ρ c 4).trans ((out1_4 _ c).trans ?_)
  rw [at5_v3, at5_v6, at5_v13, at5_v8]; rfl
theorem at6_f : W6 m ρ c main_v11_1 = fires (arg m c main_arg0) (arg m c main_arg1) (arg m c main_arg2) := by
  rw [W6_of m ρ c main_v11_1 (by decide), W5_of m ρ c main_v11_1 (by decide), at4_f]
theorem at6_us : W6 m ρ c main_v11_0 = drive (arg m c main_arg0) (arg m c main_arg1) (arg m c main_arg2) (arg m c main_arg12) selS := by
  rw [W6_of m ρ c main_v11_0 (by decide), W5_of m ρ c main_v11_0 (by decide), at4_u]

theorem at7_v15 : W7 m ρ c main_v15 = shapeCast S512x2x1 (fires (arg m c main_arg0) (arg m c main_arg1) (arg m c main_arg2)) shapeCasts_S1024x1_S512x2x1 := by
  rw [← at6_f m ρ c]
  after_results
  rfl
theorem at7_v18 : W7 m ρ c main_v18 = shapeCast S512x2x4096 (drive (arg m c main_arg0) (arg m c main_arg1) (arg m c main_arg2) (arg m c main_arg12) selS) shapeCasts_S1024x4096_S512x2x4096 := by
  rw [← at6_us m ρ c]
  after_results
  rfl
theorem at7_v17 : W7 m ρ c main_v17 = resW (arg m c main_arg11) := by
  unfold resW
  after_results
  rw [W6_args m ρ c main_arg11 (by decide)]
theorem at8_h : W8 m ρ c main_v19 = lastS (arg m c main_arg0) (arg m c main_arg1) (arg m c main_arg2) (arg m c main_arg11) (arg m c main_arg12) := by
  refine (W8_arr m ρ c 3).trans ((out2_3 _ c _ _ (at7_v18 m ρ c) (at7_v15 m ρ c)).trans ?_)
  rw [at7_v17]; rfl

theorem at9_v15 : W9 m ρ c main_v15 = shapeCast S512x2x1 (fires (arg m c main_arg0) (arg m c main_arg1) (arg m c main_arg2)) shapeCasts_S1024x1_S512x2x1 := by
  rw [W9_of m ρ c main_v15 (by decide), W8_of m ρ c main_v15 (by decide), at7_v15]
theorem at8_u : W8 m ρ c main_v14_0 = drive (arg m c main_arg0) (arg m c main_arg1) (arg m c main_arg2) (arg m c main_arg14) selE := by
  rw [W8_of m ρ c main_v14_0 (by decide), W7_of m ρ c main_v14_0 (by decide), at6_u]
theorem at9_v22 : W9 m ρ c main_v22 = shapeCast S512x2x4096 (drive (arg m c main_arg0) (arg m c main_arg1) (arg m c main_arg2) (arg m c main_arg14) selE) shapeCasts_S1024x4096_S512x2x4096 := by
  rw [← at8_u m ρ c]
  after_results
  rfl
theorem at9_v21 : W9 m ρ c main_v21 = resW (arg m c main_arg13) := by
  unfold resW
  after_results
  rw [W8_args m ρ c main_arg13 (by decide)]
theorem at10_h : W10 m ρ c main_v23 = lastE (arg m c main_arg0) (arg m c main_arg1) (arg m c main_arg2) (arg m c main_arg13) (arg m c main_arg14) := by
  refine (W10_arr m ρ c 3).trans ((out3_3 _ c _ _ (at9_v22 m ρ c) (at9_v15 m ρ c)).trans ?_)
  rw [at9_v21]; rfl

theorem at11_v19 : W11 m ρ c main_v19 = lastS (arg m c main_arg0) (arg m c main_arg1) (arg m c main_arg2) (arg m c main_arg11) (arg m c main_arg12) := by
  rw [W11_of m ρ c main_v19 (by decide), W10_of m ρ c main_v19 (by decide), W9_of m ρ c main_v19 (by decide), at8_h]
theorem at11_v23 : W11 m ρ c main_v23 = lastE (arg m c main_arg0) (arg m c main_arg1) (arg m c main_arg2) (arg m c main_arg13) (arg m c main_arg14) := by
  rw [W11_of m ρ c main_v23 (by decide), at10_h]
theorem at11_v24 : W11 m ρ c main_v24 = outW (arg m c main_arg3) := by
  unfold outW
  after_results
  rw [W10_args m ρ c main_arg3 (by decide)]
theorem at11_v25 : W11 m ρ c main_v25 = outW (arg m c main_arg4) := by
  unfold outW
  after_results
  rw [W10_args m ρ c main_arg4 (by decide)]
theorem at11_v27 : W11 m ρ c main_v27 = query (arg m c main_arg0) := by
  unfold query
  after_results
  rw [W10_args m ρ c main_arg0 (by decide)]
  rfl
theorem at11_v28 : W11 m ρ c main_v28 = transpose S1024x1 [1, 0] (arg m c main_arg5) transposes_S1x1024_S1024x1_1_0 := by
  after_results
  rw [W10_args m ρ c main_arg5 (by decide)]
theorem at11_v29 : W11 m ρ c main_v29 = shapeCast S1x1 (arg m c main_arg6) shapeCasts_S1_S1x1 := by
  after_results
  rw [W10_args m ρ c main_arg6 (by decide)]
  rfl
theorem at11_v30 : W11 m ρ c main_v30 = transpose S1024x1024 [1, 0] (arg m c main_arg7) transposes_S1024x1024_S1024x1024_1_0 := by
  after_results
  rw [W10_args m ρ c main_arg7 (by decide)]
theorem at11_v31 : W11 m ρ c main_v31 = rowOfVec (arg m c main_arg8) := by
  unfold rowOfVec
  after_results
  rw [W10_args m ρ c main_arg8 (by decide)]
  rfl
theorem at11_v32 : W11 m ρ c main_v32 = rowOfVec (arg m c main_arg9) := by
  unfold rowOfVec
  after_results
  rw [W10_args m ρ c main_arg9 (by decide)]
  rfl
theorem at11_v33 : W11 m ρ c main_v33 = rowOfVec (arg m c main_arg10) := by
  unfold rowOfVec
  after_results
  rw [W10_args m ρ c main_arg10 (by decide)]
  rfl

/-- The program's result, from the last states of the two branches and the readout's arguments. -/
theorem result : W12 m ρ c main_v34 = Resv.outV
    (lastS (arg m c main_arg0) (arg m c main_arg1) (arg m c main_arg2) (arg m c main_arg11) (arg m c main_arg12))
    (lastE (arg m c main_arg0) (arg m c main_arg1) (arg m c main_arg2) (arg m c main_arg13) (arg m c main_arg14))
    (outW (arg m c main_arg3)) (outW (arg m c main_arg4)) (query (arg m c main_arg0))
    (transpose S1024x1 [1, 0] (arg m c main_arg5) transposes_S1x1024_S1024x1_1_0) (shapeCast S1x1 (arg m c main_arg6) shapeCasts_S1_S1x1)
    (transpose S1024x1024 [1, 0] (arg m c main_arg7) transposes_S1024x1024_S1024x1024_1_0)
    (rowOfVec (arg m c main_arg8)) (rowOfVec (arg m c main_arg9)) (rowOfVec (arg m c main_arg10)) := by
  refine (W12_arr m ρ c 11).trans ((out4_11 _ c).trans ?_)
  rw [at11_v19, at11_v23, at11_v24, at11_v25, at11_v27, at11_v28, at11_v29, at11_v30, at11_v31, at11_v32, at11_v33]

end Cert.KernelIdeal.Run
end
-- ==== Proof.Spec.lean ====
/- What the kernel and the reference both compute, over the extended reals: the keys' rows, their running averages, the
   steps that fire, the drive of a branch, and the states of its reservoir. -/
module

public import Idealize.ShloMosaic.Lib.Pointwise

@[expose] public section

noncomputable section

namespace Cert.Spec

open Idealize.ShloMosaic

/-- Two rows of 512 numbers: one step of both sequences. -/
abbrev Rows : Type := Fin 2 → Fin 512 → EReal

/-- The length of each row. -/
def len (v : Rows) (b : Fin 2) : EReal := Ideal.sqrt (∑ k : Fin 512, v b k * v b k)

/-- The running averages of the rows `ks`, before step `n`. -/
def ema (ks : ℕ → Rows) : ℕ → Rows
  | 0 => fun _ _ => 0
  | n + 1 => fun b j => Ideal.ofBits .f32 0x3F7D8CBB#32 * ema ks n b j + Ideal.ofBits .f32 0x3C1CD154#32 * ks n b j

/-- The rows over their lengths, the length bounded below. -/
def unit (k : Rows) : Rows := fun b j => Ideal.div (k b j) (max (len k b) (Ideal.ofBits .f32 0x358637BD#32))

/-- The place of step `n` in the sequence. -/
def recency (n : ℕ) : EReal := Ideal.div ((n : EReal) + 1) (Ideal.ofBits .f32 0x44000000#32)

/-- The row leaves its average by more than the threshold. -/
def Leaves (k e : Rows) (b : Fin 2) : Prop := Ideal.ofBits .f32 0x3F333333#32 * len k b ≤ len (fun b j => k b j - e b j) b

/-- Step `n` fires: a row of either branch leaves its average. -/
def Fires (ks ke : ℕ → Rows) (n : ℕ) (b : Fin 2) : Prop := Leaves (ks n) (ema ks n) b ∨ Leaves (ke n) (ema ke n) b

/-- The drive of a branch at step `n`: its normalised rows through its input weights. -/
def drive (kin : ℕ → Rows) (w : Fin 4096 → Fin 512 → EReal) (n : ℕ) (b : Fin 2) (j : Fin 4096) : EReal :=
  ∑ k : Fin 512, kin n b k * w j k

open Classical in
/-- The states of a reservoir before step `n`. -/
def state (p : ℕ → Fin 2 → Prop) (u : ℕ → Fin 2 → Fin 4096 → EReal) (w : Fin 4096 → Fin 4096 → EReal) : ℕ → Fin 2 → Fin 4096 → EReal
  | 0 => fun _ _ => 0
  | n + 1 => fun b j => if p n b then Ideal.tanh ((∑ k : Fin 4096, state p u w n b k * w j k) + u n b j) else state p u w n b j

open Classical in
/-- States agree as long as the steps and the drives do. -/
theorem state_congr {p p' : ℕ → Fin 2 → Prop} {u u' : ℕ → Fin 2 → Fin 4096 → EReal} (w : Fin 4096 → Fin 4096 → EReal) (N : ℕ)
    (hp : ∀ n < N, ∀ b, p n b ↔ p' n b) (hu : ∀ n < N, ∀ b j, u n b j = u' n b j) : ∀ n ≤ N, state p u w n = state p' u' w n
  | 0, _ => rfl
  | n + 1, h => by
    funext b j
    simp only [state, state_congr w N hp hu n (by omega), hu n (by omega)]
    exact if_congr (hp n (by omega) b) rfl rfl

/-- Averages agree as long as the rows do. -/
theorem ema_congr {ks ks' : ℕ → Rows} (N : ℕ) (h : ∀ n < N, ks n = ks' n) : ∀ n ≤ N, ema ks n = ema ks' n
  | 0, _ => rfl
  | n + 1, hn => by
    funext b j
    simp only [ema, ema_congr N h n (by omega), h n (by omega)]

/-! ## The three quantities of the arguments -/

section
variable (x : Fin 2 → Fin 512 → Fin 1024 → EReal) (a : Fin 512 → Fin 1024 → EReal)

/-- The keys' rows at step `n`: the hidden rows through the key weights. -/
def keyRows (n : ℕ) : Rows := fun b j => ∑ k : Fin 1024, x b ⟨n % 512, Nat.mod_lt _ (by decide)⟩ k * a j k

/-- The normalised rows of the semantic branch, and those of the episodic branch. -/
def kinS (n : ℕ) : Rows := unit (keyRows x a n)
def kinE (n : ℕ) : Rows := fun b j => recency n * unit (keyRows x a n) b j

end

/-- The last state of a reservoir: after the 511 steps of the write phase. -/
def lastS (x : Fin 2 → Fin 512 → Fin 1024 → EReal) (a1 a2 : Fin 512 → Fin 1024 → EReal) (w : Fin 4096 → Fin 4096 → EReal)
    (wi : Fin 4096 → Fin 512 → EReal) : Fin 2 → Fin 4096 → EReal :=
  state (Fires (keyRows x a1) (keyRows x a2)) (drive (kinS x a1) wi) w 511
def lastE (x : Fin 2 → Fin 512 → Fin 1024 → EReal) (a1 a2 : Fin 512 → Fin 1024 → EReal) (w : Fin 4096 → Fin 4096 → EReal)
    (wi : Fin 4096 → Fin 512 → EReal) : Fin 2 → Fin 4096 → EReal :=
  state (Fires (keyRows x a1) (keyRows x a2)) (drive (kinE x a2) wi) w 511

end Cert.Spec
end
end
-- ==== Proof.KernelSpec.lean ====
/- The idealized kernel's recurrences read at an index: they are the specification's. -/
module

public import proofs.«01_k».proof.Proof.KernelValue
public import proofs.«01_k».proof.Proof.Spec
public import Idealize.ShloMosaic.Lib.DynamicIndex

@[expose] public section

set_option maxRecDepth 16384

noncomputable section

namespace Cert.KernelIdeal.Run

open Idealize.ShloMosaic Idealize.ShloMosaic.TcCoe
open Cert.KernelIdeal.Gen Cert.KernelIdeal.Gate
open Cert.Spec (Rows)

/-- Two rows as a table of numbers. -/
abbrev tab (v : FVec Ideal S2x512 .f32) : Rows := fun b j => v (ix2 b j)

/-! # One step -/

theorem len_at (v : FVec Ideal S2x512 .f32) (b : Fin 2) : Gate.norm v (ix2 b 0) = Spec.len (tab v) b := by
  pointwise [Gate.norm, Spec.len]

theorem emaStep_tab (e k : FVec Ideal S2x512 .f32) (ks : ℕ → Rows) (n : ℕ) (he : tab e = Spec.ema ks n) (hk : tab k = ks n) :
    tab (emaStep e k) = Spec.ema ks (n + 1) := by
  funext b j
  rw [Spec.ema, ← he, ← hk]
  pointwise [emaStep]

theorem unitRow_tab (k : FVec Ideal S2x512 .f32) : tab (unitRow k) = Spec.unit (tab k) := by
  funext b j
  rw [Spec.unit, ← len_at]
  pointwise [unitRow]

theorem leaves_at (k e : FVec Ideal S2x512 .f32) (b : Fin 2) : leaves k e (ix2 b 0) = 1#1 ↔ Spec.Leaves (tab k) (tab e) b := by
  have h : (fun b j => tab k b j - tab e b j) = tab (subf k e) := by
    funext b j; pointwise
  rw [Spec.Leaves, h, ← len_at, ← len_at]
  pointwise [leaves]
  by_cases hh : Ideal.ofBits FTy.f32 1060320051#32 * Gate.norm k (ix2 b 0) ≤ Gate.norm (subf k e) (ix2 b 0) <;> simp [hh]

/-- The number a kernel's step counts as, for the numbers there are. -/
theorem unitRowW_tab (n : ℕ) (hn : n < 512) (k : FVec Ideal S2x512 .f32) :
    tab (unitRowW (BitVec.ofNat 32 n) k) = fun b j => Spec.recency n * Spec.unit (tab k) b j := by
  funext b j
  rw [← unitRow_tab, Spec.recency]
  have e : (Scalar.addi (BitVec.ofNat 32 n) 1#32).toInt = (n : Int) + 1 := by
    show (BitVec.ofNat 32 n + 1#32).toInt = _
    rw [← BitVec.ofNat_add, toInt_ofNat_of_lt (by omega)]; push_cast; rfl
  pointwise [unitRowW]
  rw [e]
  push_cast
  rfl

/-- A half is below one and not below zero. -/
theorem half_lt : Ideal.ofBits .f32 0x3F000000#32 < 1 ∧ ¬ Ideal.ofBits .f32 0x3F000000#32 < 0 := by
  have h : Ideal.ofBits .f32 0x3F000000#32 = (((1 : ℝ) / 2 : ℝ) : EReal) := by
    simp [Ideal.ofBits, Ideal.ieee, -EReal.coe_mul]; norm_num
  rw [h]
  constructor
  · rw [show (1 : EReal) = ((1 : ℝ) : EReal) by norm_cast]; exact EReal.coe_lt_coe_iff.mpr (by norm_num)
  · rw [show (0 : EReal) = ((0 : ℝ) : EReal) by norm_cast]; exact fun h => absurd (EReal.coe_lt_coe_iff.mp h) (by norm_num)

/-- A step's fire bit as the reservoir kernel reads it. -/
theorem fireStep_at (n : ℕ) (hn : n < 511) (k k' e e' : FVec Ideal S2x512 .f32) (b : Fin 2) :
    Ideal.ofBits .f32 0x3F000000#32 < (fireStep (BitVec.ofNat 32 n) k k' e e' (ix2 b 0) : EReal) ↔ (Spec.Leaves (tab k) (tab e) b ∨ Spec.Leaves (tab k') (tab e') b) := by
  have hc : Scalar.cmpi .slt (BitVec.ofNat 32 n) 511#32 = 1#1 := by
    show BitVec.ofBool ((BitVec.ofNat 32 n).slt 511#32) = 1#1
    rw [BitVec.slt, toInt_ofNat_of_lt (by omega), show (511#32 : BitVec 32).toInt = 511 from by decide, decide_eq_true (by omega)]
    rfl
  rw [← leaves_at, ← leaves_at]
  pointwise [fireStep]
  rw [hc]
  generalize leaves k e (ix2 b 0) = p
  generalize leaves k' e' (ix2 b 0) = q
  have h1 := half_lt.1; have h0 := half_lt.2
  have hp : p = 0#1 ∨ p = 1#1 := by revert p; decide
  have hq : q = 0#1 ∨ q = 1#1 := by revert q; decide
  have e0 : (FloatOps.sitofp (F := Ideal) .f32 0#32 : EReal) = 0 := by show (((0#32 : BitVec 32).toInt : ℝ) : EReal) = 0; simp
  have e1 : (FloatOps.sitofp (F := Ideal) .f32 1#32 : EReal) = 1 := by show (((1#32 : BitVec 32).toInt : ℝ) : EReal) = 1; simp
  rcases hp with rfl | rfl <;> rcases hq with rfl | rfl
  · show Ideal.ofBits .f32 0x3F000000#32 < (FloatOps.sitofp (F := Ideal) .f32 0#32 : EReal) ↔ _
    rw [e0]; simp [h0]
  all_goals
    show Ideal.ofBits .f32 0x3F000000#32 < (FloatOps.sitofp (F := Ideal) .f32 1#32 : EReal) ↔ _
    rw [e1]; simp [h1]

/-- None at the padded step. -/
theorem fireStep_pad (k k' e e' : FVec Ideal S2x512 .f32) (b : Fin 2) :
    ¬ Ideal.ofBits .f32 0x3F000000#32 < (fireStep (BitVec.ofNat 32 511) k k' e e' (ix2 b 0) : EReal) := by
  pointwise [fireStep]
  exact half_lt.2

/-! # The rows of every step -/

/-- Step `n`'s two rows of the projected keys, 512 columns from `c`. -/
def row (kk : Vec Ideal S1024x1024 .f32) (c n : ℕ) : Rows := fun b j =>
  kk (ix2 (⟨(2 * n + b.val) % 1024, Nat.mod_lt _ (by decide)⟩ : Fin 1024) (⟨(c + j.val) % 1024, Nat.mod_lt _ (by decide)⟩ : Fin 1024))

/-- What a trip slices from its block is the rows of its steps. -/
theorem slice_tab (kk : Vec Ideal S1024x1024 .f32) (k : Fin k0_t1_loop.trips) (o c q : ℕ) (h) (ho : o = 2 * q) (hq : q < 4) (hc : c ≤ 512) :
    tab (extractStridedSlice S2x512 ![o, c] (blk kk k) h) = row kk c (4 * k.val + q) := by
  funext b j
  have hk : k.val < 128 := trips_eq ▸ k.isLt
  unfold row
  pointwise [blk]
  congr 2
  · apply Fin.ext
    show k0_off1 k 0 + (o + b.val) = (2 * (4 * k.val + q) + b.val) % 1024
    rw [k0_off1_eq]
    show 8 * k.val + (o + b.val) = _
    omega
  · apply Fin.ext
    show k0_off1 k 1 + (c + j.val) = (c + j.val) % 1024
    rw [k0_off1_eq]
    show 0 + (c + j.val) = _
    omega

theorem ema0_tab (ks : ℕ → Rows) : tab (ema0 (F := Ideal)) = Spec.ema ks 0 := by
  funext b j
  rw [Spec.ema]
  pointwise [ema0]

/-- The averages before each trip are those before its first step. -/
theorem emaS_tab (kk : Vec Ideal S1024x1024 .f32) : ∀ n ≤ 128, tab (emaS kk n) = Spec.ema (row kk 0) (4 * n)
  | 0, _ => ema0_tab _
  | n + 1, h => by
    have hn : n < k0_t1_loop.trips := by rw [trips_eq]; omega
    rw [emaS_succ kk ⟨n, hn⟩]
    unfold tripEmaS
    rw [shapeCast_self]
    exact emaStep_tab _ _ _ _ (emaStep_tab _ _ _ _ (emaStep_tab _ _ _ _ (emaStep_tab _ _ _ _ (emaS_tab kk n (by omega))
      (slice_tab kk ⟨n, hn⟩ 0 0 0 _ rfl (by decide) (by decide))) (slice_tab kk ⟨n, hn⟩ 2 0 1 _ rfl (by decide) (by decide)))
      (slice_tab kk ⟨n, hn⟩ 4 0 2 _ rfl (by decide) (by decide))) (slice_tab kk ⟨n, hn⟩ 6 0 3 _ rfl (by decide) (by decide))
theorem emaE_tab (kk : Vec Ideal S1024x1024 .f32) : ∀ n ≤ 128, tab (emaE kk n) = Spec.ema (row kk 512) (4 * n)
  | 0, _ => ema0_tab _
  | n + 1, h => by
    have hn : n < k0_t1_loop.trips := by rw [trips_eq]; omega
    rw [emaE_succ kk ⟨n, hn⟩]
    unfold tripEmaE
    rw [shapeCast_self]
    exact emaStep_tab _ _ _ _ (emaStep_tab _ _ _ _ (emaStep_tab _ _ _ _ (emaStep_tab _ _ _ _ (emaE_tab kk n (by omega))
      (slice_tab kk ⟨n, hn⟩ 0 512 0 _ rfl (by decide) (by decide))) (slice_tab kk ⟨n, hn⟩ 2 512 1 _ rfl (by decide) (by decide)))
      (slice_tab kk ⟨n, hn⟩ 4 512 2 _ rfl (by decide) (by decide))) (slice_tab kk ⟨n, hn⟩ 6 512 3 _ rfl (by decide) (by decide))

/-- Four pairs of rows, one under the other, at a row of the `q`-th pair. -/
theorem cat4 (v : Fin 4 → FVec Ideal S2x512 .f32) (q : Fin 4) (b : Fin 2) (j : Fin 512) (i : Fin 8) (hi : i.val = 2 * q.val + b.val) :
    concatenate S8x512 0 [⟨S2x512, v 0⟩, ⟨S2x512, v 1⟩, ⟨S2x512, v 2⟩, ⟨S2x512, v 3⟩] concatenates_S2x512_S2x512_S2x512_S2x512_S8x512_d0 (ix2 i j) = v q (ix2 b j) := by
  pointwise
  have hb := b.isLt
  match q, hi with
  | 0, hi => rw [dif_pos (by simp at hi; omega)]; congr 2; apply Fin.ext; simp at hi; simp; omega
  | 1, hi => rw [dif_neg (by simp at hi; omega), dif_pos (by simp at hi; omega)]; congr 2; apply Fin.ext; simp at hi; simp; omega
  | 2, hi => rw [dif_neg (by simp at hi; omega), dif_neg (by simp at hi; omega), dif_pos (by simp at hi; omega)]; congr 2; apply Fin.ext; simp at hi; simp; omega
  | 3, hi => rw [dif_neg (by simp at hi; omega), dif_neg (by simp at hi; omega), dif_neg (by simp at hi; omega)]; congr 2; apply Fin.ext; simp at hi; simp; omega
theorem cat4' (v : Fin 4 → FVec Ideal S2x1 .f32) (q : Fin 4) (b : Fin 2) (i : Fin 8) (hi : i.val = 2 * q.val + b.val) :
    concatenate S8x1 0 [⟨S2x1, v 0⟩, ⟨S2x1, v 1⟩, ⟨S2x1, v 2⟩, ⟨S2x1, v 3⟩] concatenates_S2x1_S2x1_S2x1_S2x1_S8x1_d0 (ix2 i 0) = v q (ix2 b 0) := by
  pointwise
  have hb := b.isLt
  match q, hi with
  | 0, hi => rw [dif_pos (by simp at hi; omega)]; congr 2; apply Fin.ext; simp at hi; simp; omega
  | 1, hi => rw [dif_neg (by simp at hi; omega), dif_pos (by simp at hi; omega)]; congr 2; apply Fin.ext; simp at hi; simp; omega
  | 2, hi => rw [dif_neg (by simp at hi; omega), dif_neg (by simp at hi; omega), dif_pos (by simp at hi; omega)]; congr 2; apply Fin.ext; simp at hi; simp; omega
  | 3, hi => rw [dif_neg (by simp at hi; omega), dif_neg (by simp at hi; omega), dif_neg (by simp at hi; omega)]; congr 2; apply Fin.ext; simp at hi; simp; omega

/-- A step is one of the four of its trip. -/
theorem step_split (n : ℕ) (hn : n < 512) : ∃ (k : Fin k0_t1_loop.trips) (q : Fin 4), n = 4 * k.val + q.val :=
  ⟨⟨n / 4, by rw [trips_eq]; omega⟩, ⟨n % 4, by omega⟩, by show n = 4 * (n / 4) + n % 4; omega⟩

/-- The number of a trip's step is its place in the sequence. -/
theorem stepNo_eq (k : Fin k0_t1_loop.trips) (q : ℕ) : stepNo k (BitVec.ofNat 32 q) = BitVec.ofNat 32 (4 * k.val + q) := by
  unfold stepNo
  show 4#32 * (0#32 + BitVec.ofNat 32 k.val * 1#32) + BitVec.ofNat 32 q = _
  apply BitVec.eq_of_toNat_eq
  simp

/-- The normalised rows all trips leave are those of every step. -/
theorem kinS_tab (kk : Vec Ideal S1024x1024 .f32) (n : ℕ) (hn : n < 512) (b : Fin 2) (j : Fin 512) (r : Fin 1024) (hr : r.val = 2 * n + b.val) :
    kinS kk (ix2 r j) = Spec.unit (row kk 0 n) b j := by
  obtain ⟨k, q, rfl⟩ := step_split n hn
  have hb := b.isLt
  have hq := q.isLt
  rw [← kinS_row kk k ⟨2 * q.val + b.val, by omega⟩ j (ix2 r j) (by show r.val = _; rw [hr]; show _ = 8 * k.val + (2 * q.val + b.val); omega) rfl]
  unfold tripKinS
  rw [shapeCast_self]
  refine (cat4 ![unitRow (ks0 (blk kk k)), unitRow (ks1 (blk kk k)), unitRow (ks2 (blk kk k)), unitRow (ks3 (blk kk k))] q b j _ rfl).trans ?_
  match q, hq with
  | 0, _ => exact (congrFun (congrFun (unitRow_tab _) b) j).trans (by rw [slice_tab kk k 0 0 0 _ rfl (by decide) (by decide)]; rfl)
  | 1, _ => exact (congrFun (congrFun (unitRow_tab _) b) j).trans (by rw [slice_tab kk k 2 0 1 _ rfl (by decide) (by decide)]; rfl)
  | 2, _ => exact (congrFun (congrFun (unitRow_tab _) b) j).trans (by rw [slice_tab kk k 4 0 2 _ rfl (by decide) (by decide)]; rfl)
  | 3, _ => exact (congrFun (congrFun (unitRow_tab _) b) j).trans (by rw [slice_tab kk k 6 0 3 _ rfl (by decide) (by decide)]; rfl)

/-- One of a trip's weighted rows, from its step's rows. -/
theorem unitRowW_step (kk : Vec Ideal S1024x1024 .f32) (k : Fin k0_t1_loop.trips) (v : FVec Ideal S2x512 .f32) (q : ℕ) (hq : q < 4)
    (hv : tab v = row kk 512 (4 * k.val + q)) (b : Fin 2) (j : Fin 512) :
    unitRowW (stepNo k (BitVec.ofNat 32 q)) v (ix2 b j) = Spec.recency (4 * k.val + q) * Spec.unit (row kk 512 (4 * k.val + q)) b j := by
  have hk : k.val < 128 := trips_eq ▸ k.isLt
  rw [stepNo_eq, ← hv]
  exact congrFun (congrFun (unitRowW_tab _ (by omega) v) b) j

theorem kinE_tab (kk : Vec Ideal S1024x1024 .f32) (n : ℕ) (hn : n < 512) (b : Fin 2) (j : Fin 512) (r : Fin 1024) (hr : r.val = 2 * n + b.val) :
    kinE kk (ix2 r j) = Spec.recency n * Spec.unit (row kk 512 n) b j := by
  obtain ⟨k, q, rfl⟩ := step_split n hn
  have hb := b.isLt
  have hq := q.isLt
  rw [← kinE_row kk k ⟨2 * q.val + b.val, by omega⟩ j (ix2 r j) (by show r.val = _; rw [hr]; show _ = 8 * k.val + (2 * q.val + b.val); omega) rfl]
  unfold tripKinE
  rw [shapeCast_self]
  refine (cat4 ![unitRowW (stepNo k 0#32) (ke0 (blk kk k)), unitRowW (stepNo k 1#32) (ke1 (blk kk k)), unitRowW (stepNo k 2#32) (ke2 (blk kk k)),
    unitRowW (stepNo k 3#32) (ke3 (blk kk k))] q b j _ rfl).trans ?_
  match q, hq with
  | 0, _ => exact unitRowW_step kk k _ 0 (by decide) (slice_tab kk k 0 512 0 _ rfl (by decide) (by decide)) b j
  | 1, _ => exact unitRowW_step kk k _ 1 (by decide) (slice_tab kk k 2 512 1 _ rfl (by decide) (by decide)) b j
  | 2, _ => exact unitRowW_step kk k _ 2 (by decide) (slice_tab kk k 4 512 2 _ rfl (by decide) (by decide)) b j
  | 3, _ => exact unitRowW_step kk k _ 3 (by decide) (slice_tab kk k 6 512 3 _ rfl (by decide) (by decide)) b j

/-- The fire bit of one of a trip's steps, from its step's rows and averages: the step's, and none at the padded step. -/
theorem fireStep_step (kk : Vec Ideal S1024x1024 .f32) (k : Fin k0_t1_loop.trips) (v v' e e' : FVec Ideal S2x512 .f32) (q : ℕ) (hq : q < 4)
    (hv : tab v = row kk 0 (4 * k.val + q)) (hv' : tab v' = row kk 512 (4 * k.val + q))
    (he : tab e = Spec.ema (row kk 0) (4 * k.val + q)) (he' : tab e' = Spec.ema (row kk 512) (4 * k.val + q)) (b : Fin 2) :
    Ideal.ofBits .f32 0x3F000000#32 < (fireStep (stepNo k (BitVec.ofNat 32 q)) v v' e e' (ix2 b 0) : EReal)
      ↔ 4 * k.val + q < 511 ∧ Spec.Fires (row kk 0) (row kk 512) (4 * k.val + q) b := by
  have hk : k.val < 128 := trips_eq ▸ k.isLt
  rw [stepNo_eq]
  by_cases h : 4 * k.val + q < 511
  · rw [fireStep_at _ h, hv, hv', he, he']
    exact ⟨fun hh => ⟨h, hh⟩, fun hh => hh.2⟩
  · have h5 : 4 * k.val + q = 511 := by omega
    rw [h5]
    exact ⟨fun hh => (fireStep_pad _ _ _ _ _ hh).elim, fun hh => absurd hh.1 (by decide)⟩

theorem fire_at (kk : Vec Ideal S1024x1024 .f32) (n : ℕ) (hn : n < 512) (b : Fin 2) (r : Fin 1024) (hr : r.val = 2 * n + b.val) :
    Ideal.ofBits .f32 0x3F000000#32 < (fire kk (ix2 r 0) : EReal) ↔ n < 511 ∧ Spec.Fires (row kk 0) (row kk 512) n b := by
  obtain ⟨k, q, rfl⟩ := step_split n hn
  have hb := b.isLt
  have hq := q.isLt
  have hk : k.val < 128 := trips_eq ▸ k.isLt
  rw [← fire_row kk k ⟨2 * q.val + b.val, by omega⟩ 0 (ix2 r 0) (by show r.val = _; rw [hr]; show _ = 8 * k.val + (2 * q.val + b.val); omega) rfl]
  unfold tripFire
  have s (o c q) (h) (ho : o = 2 * q) (hq : q < 4) (hc : c ≤ 512) := slice_tab kk k o c q h ho hq hc
  have s0 := emaS_tab kk k.val (by omega)
  have e0 := emaE_tab kk k.val (by omega)
  have s1 : tab (ema1 (emaS kk k.val) (ks0 (blk kk k))) = Spec.ema (row kk 0) (4 * k.val + 1) := emaStep_tab _ _ _ _ s0 (s 0 0 0 _ rfl (by decide) (by decide))
  have e1 : tab (ema1 (emaE kk k.val) (ke0 (blk kk k))) = Spec.ema (row kk 512) (4 * k.val + 1) := emaStep_tab _ _ _ _ e0 (s 0 512 0 _ rfl (by decide) (by decide))
  have s2 : tab (ema2 (emaS kk k.val) (ks0 (blk kk k)) (ks1 (blk kk k))) = Spec.ema (row kk 0) (4 * k.val + 2) := emaStep_tab _ _ _ _ s1 (s 2 0 1 _ rfl (by decide) (by decide))
  have e2 : tab (ema2 (emaE kk k.val) (ke0 (blk kk k)) (ke1 (blk kk k))) = Spec.ema (row kk 512) (4 * k.val + 2) := emaStep_tab _ _ _ _ e1 (s 2 512 1 _ rfl (by decide) (by decide))
  have s3 : tab (ema3 (emaS kk k.val) (ks0 (blk kk k)) (ks1 (blk kk k)) (ks2 (blk kk k))) = Spec.ema (row kk 0) (4 * k.val + 3) := emaStep_tab _ _ _ _ s2 (s 4 0 2 _ rfl (by decide) (by decide))
  have e3 : tab (ema3 (emaE kk k.val) (ke0 (blk kk k)) (ke1 (blk kk k)) (ke2 (blk kk k))) = Spec.ema (row kk 512) (4 * k.val + 3) := emaStep_tab _ _ _ _ e2 (s 4 512 2 _ rfl (by decide) (by decide))
  have hc := cat4' ![fireStep (stepNo k 0#32) (ks0 (blk kk k)) (ke0 (blk kk k)) (emaS kk k.val) (emaE kk k.val),
     fireStep (stepNo k 1#32) (ks1 (blk kk k)) (ke1 (blk kk k)) (ema1 (emaS kk k.val) (ks0 (blk kk k))) (ema1 (emaE kk k.val) (ke0 (blk kk k))),
     fireStep (stepNo k 2#32) (ks2 (blk kk k)) (ke2 (blk kk k)) (ema2 (emaS kk k.val) (ks0 (blk kk k)) (ks1 (blk kk k))) (ema2 (emaE kk k.val) (ke0 (blk kk k)) (ke1 (blk kk k))),
     fireStep (stepNo k 3#32) (ks3 (blk kk k)) (ke3 (blk kk k)) (ema3 (emaS kk k.val) (ks0 (blk kk k)) (ks1 (blk kk k)) (ks2 (blk kk k)))
       (ema3 (emaE kk k.val) (ke0 (blk kk k)) (ke1 (blk kk k)) (ke2 (blk kk k)))] q b ⟨2 * q.val + b.val, by omega⟩ rfl
  refine (iff_of_eq (congrArg (fun z : EReal => Ideal.ofBits .f32 0x3F000000#32 < z) hc)).trans ?_
  match q, hq with
  | 0, _ => exact fireStep_step kk k _ _ _ _ 0 (by decide) (s 0 0 0 _ rfl (by decide) (by decide)) (s 0 512 0 _ rfl (by decide) (by decide)) s0 e0 b
  | 1, _ => exact fireStep_step kk k _ _ _ _ 1 (by decide) (s 2 0 1 _ rfl (by decide) (by decide)) (s 2 512 1 _ rfl (by decide) (by decide)) s1 e1 b
  | 2, _ => exact fireStep_step kk k _ _ _ _ 2 (by decide) (s 4 0 2 _ rfl (by decide) (by decide)) (s 4 512 2 _ rfl (by decide) (by decide)) s2 e2 b
  | 3, _ => exact fireStep_step kk k _ _ _ _ 3 (by decide) (s 6 0 3 _ rfl (by decide) (by decide)) (s 6 512 3 _ rfl (by decide) (by decide)) s3 e3 b

/-! # The keys, the drives, the states -/

section
variable (x : Vec Ideal S2x512x1024 .f32) (a1 a2 : Vec Ideal S512x1024 .f32)

/-- The arguments as tables of numbers. -/
abbrev xt : Fin 2 → Fin 512 → Fin 1024 → EReal := fun b t k => x (ix3 b t k)
abbrev at2 (a : Vec Ideal S512x1024 .f32) : Fin 512 → Fin 1024 → EReal := fun j k => a (ix2 j k)

theorem keys_at (i j : Fin 1024) (hi : i.val < 1022) : keys (hiddenRows x) (keyW a1 a2) (ix2 i j)
    = ∑ k : Fin 1024, x (ix3 ⟨i.val % 2, by omega⟩ ⟨i.val / 2, by omega⟩ k)
        * (if h : j.val < 512 then a1 (ix2 ⟨j.val, h⟩ k) else a2 (ix2 ⟨j.val - 512, by omega⟩ k)) := by
  pointwise [keys, hiddenRows, keyW]
  refine Finset.sum_congr rfl fun k _ => ?_
  rw [dif_pos hi]

theorem rowS_eq (n : ℕ) (hn : n < 511) : row (keys (hiddenRows x) (keyW a1 a2)) 0 n = Spec.keyRows (xt x) (at2 a1) n := by
  funext b j
  have hb := b.isLt
  have hj := j.isLt
  unfold row Spec.keyRows
  rw [keys_at x a1 a2 _ _ (by show (2 * n + b.val) % 1024 < 1022; omega)]
  refine Finset.sum_congr rfl fun k _ => ?_
  rw [dif_pos (by show (0 + j.val) % 1024 < 512; omega)]
  have h1 : (⟨(2 * n + b.val) % 1024 % 2, by omega⟩ : Fin 2) = b := Fin.ext (by show (2 * n + b.val) % 1024 % 2 = b.val; omega)
  have h2 : (⟨(2 * n + b.val) % 1024 / 2, by omega⟩ : Fin 512) = ⟨n % 512, by omega⟩ := Fin.ext (by show (2 * n + b.val) % 1024 / 2 = n % 512; omega)
  have h3 : (⟨(0 + j.val) % 1024, by omega⟩ : Fin 512) = j := Fin.ext (by show (0 + j.val) % 1024 = j.val; omega)
  show x (ix3 (⟨(2 * n + b.val) % 1024 % 2, _⟩ : Fin 2) (⟨(2 * n + b.val) % 1024 / 2, _⟩ : Fin 512) k) * a1 (ix2 (⟨(0 + j.val) % 1024, _⟩ : Fin 512) k) = _
  rw [h1, h2, h3]

theorem rowE_eq (n : ℕ) (hn : n < 511) : row (keys (hiddenRows x) (keyW a1 a2)) 512 n = Spec.keyRows (xt x) (at2 a2) n := by
  funext b j
  have hb := b.isLt
  have hj := j.isLt
  unfold row Spec.keyRows
  rw [keys_at x a1 a2 _ _ (by show (2 * n + b.val) % 1024 < 1022; omega)]
  refine Finset.sum_congr rfl fun k _ => ?_
  rw [dif_neg (by show ¬ (512 + j.val) % 1024 < 512; omega)]
  have h1 : (⟨(2 * n + b.val) % 1024 % 2, by omega⟩ : Fin 2) = b := Fin.ext (by show (2 * n + b.val) % 1024 % 2 = b.val; omega)
  have h2 : (⟨(2 * n + b.val) % 1024 / 2, by omega⟩ : Fin 512) = ⟨n % 512, by omega⟩ := Fin.ext (by show (2 * n + b.val) % 1024 / 2 = n % 512; omega)
  have h3 : (⟨(512 + j.val) % 1024 - 512, by omega⟩ : Fin 512) = j := Fin.ext (by show (512 + j.val) % 1024 - 512 = j.val; omega)
  show x (ix3 (⟨(2 * n + b.val) % 1024 % 2, _⟩ : Fin 2) (⟨(2 * n + b.val) % 1024 / 2, _⟩ : Fin 512) k) * a2 (ix2 (⟨(512 + j.val) % 1024 - 512, _⟩ : Fin 512) k) = _
  rw [h1, h2, h3]

/-- The drive of a row, by the branch its selector names. -/
theorem drive_at (w : Vec Ideal S4096x512 .f32) (sel : Vec Ideal S1x1 .f32) (r : Fin 1024) (j : Fin 4096) :
    drive x a1 a2 w sel (ix2 r j) = ∑ k : Fin 512, (if Ideal.ofBits .f32 0x3F000000#32 < sel (ix2 0 0) then kinS (keys (hiddenRows x) (keyW a1 a2)) (ix2 r k)
      else kinE (keys (hiddenRows x) (keyW a1 a2)) (ix2 r k)) * w (ix2 j k) := by
  have hr := r.isLt
  unfold drive outU
  show chunk _ _ _ _ (ix2 (⟨r.val % 256, by omega⟩ : Fin 256) j) = _
  pointwise [chunk, inW]
  refine Finset.sum_congr rfl fun k _ => ?_
  have e : (⟨256 * (r.val / 256) + r.val % 256, by omega⟩ : Fin 1024) = r := Fin.ext (by show 256 * (r.val / 256) + r.val % 256 = r.val; omega)
  refine congrArg (· * w (ix2 j k)) ?_
  split
  · show kinS _ (ix2 (⟨256 * (r.val / 256) + r.val % 256, _⟩ : Fin 1024) k) = _
    rw [e]
  · show kinE _ (ix2 (⟨256 * (r.val / 256) + r.val % 256, _⟩ : Fin 1024) k) = _
    rw [e]

end

/-- The states of a reservoir kernel from the fire bits, the drives and the weights it reads. -/
theorem trail_at (w : Vec Ideal S4096x4096 .bf16) (u : Vec Ideal S1024x4096 .bf16) (f : Vec Ideal S1024x1 .f32)
    (p : ℕ → Fin 2 → Prop) (U : ℕ → Fin 2 → Fin 4096 → EReal) (W : Fin 4096 → Fin 4096 → EReal)
    (hp : ∀ n < 511, ∀ (b : Fin 2) (r : Fin 1024), r.val = 2 * n + b.val → (Ideal.ofBits .f32 0x3F000000#32 < (f (ix2 r 0) : EReal) ↔ p n b))
    (hu : ∀ n < 511, ∀ (b : Fin 2) (r : Fin 1024) (j : Fin 4096), r.val = 2 * n + b.val → u (ix2 r j) = U n b j)
    (hw : ∀ j k, w (ix2 k j) = W j k) : ∀ n ≤ 511, ∀ (b : Fin 2) (j : Fin 4096), trail w u f n (ix2 b j) = Spec.state p U W n b j
  | 0, _, b, j => by
    rw [trail, Spec.state]
    pointwise [Resv.h0, k2_pay1]
  | n + 1, hn, b, j => by
    have hb := b.isLt
    rw [trail, Spec.state]
    pointwise [Resv.step, k2_pay2, rowU, rowF]
    simp only [hw, trail_at w u f p U W hp hu hw n (by omega)]
    rw [hu n (by omega) b _ j (by show (2 * n + b.val) % 1024 = _; omega)]
    classical exact if_congr (hp n (by omega) b _ (by show (2 * n + b.val) % 1024 = _; omega)) rfl rfl

/-- The last step of a reservoir kernel, where no fire bit is set, keeps the states. -/
theorem trail_end (w : Vec Ideal S4096x4096 .bf16) (u : Vec Ideal S1024x4096 .bf16) (f : Vec Ideal S1024x1 .f32)
    (hf : ∀ (b : Fin 2) (r : Fin 1024), r.val = 1022 + b.val → ¬ Ideal.ofBits .f32 0x3F000000#32 < (f (ix2 r 0) : EReal)) (b : Fin 2) (j : Fin 4096) :
    trail w u f 512 (ix2 b j) = trail w u f 511 (ix2 b j) := by
  have hb := b.isLt
  rw [trail]
  generalize trail w u f 511 = h
  pointwise [Resv.step, k2_pay2, rowU, rowF]
  rw [if_neg (hf b _ (by show (2 * 511 + b.val) % 1024 = _; omega))]

section
variable (x : Vec Ideal S2x512x1024 .f32) (a1 a2 : Vec Ideal S512x1024 .f32) (w : Vec Ideal S4096x4096 .f32) (wi : Vec Ideal S4096x512 .f32)

theorem fires_at (n : ℕ) (hn : n < 512) (b : Fin 2) (r : Fin 1024) (hr : r.val = 2 * n + b.val) :
    Ideal.ofBits .f32 0x3F000000#32 < (fires x a1 a2 (ix2 r 0) : EReal)
      ↔ n < 511 ∧ Spec.Fires (Spec.keyRows (xt x) (at2 a1)) (Spec.keyRows (xt x) (at2 a2)) n b := by
  refine (fire_at _ n hn b r hr).trans (and_congr_right fun h => ?_)
  unfold Spec.Fires
  rw [Spec.ema_congr n (fun i hi => rowS_eq x a1 a2 i (by omega)) n le_rfl, Spec.ema_congr n (fun i hi => rowE_eq x a1 a2 i (by omega)) n le_rfl, rowS_eq x a1 a2 n h,
    rowE_eq x a1 a2 n h]

theorem driveS_at (n : ℕ) (hn : n < 511) (b : Fin 2) (r : Fin 1024) (j : Fin 4096) (hr : r.val = 2 * n + b.val) :
    drive x a1 a2 wi selS (ix2 r j) = Spec.drive (Spec.kinS (xt x) (at2 a1)) (fun j k => wi (ix2 j k)) n b j := by
  rw [drive_at]
  refine Finset.sum_congr rfl fun k _ => congrArg (· * wi (ix2 j k)) ?_
  rw [if_pos (by pointwise [selS]; exact half_lt.1), kinS_tab _ n (by omega) b k r hr, rowS_eq x a1 a2 n hn]
  rfl

theorem driveE_at (n : ℕ) (hn : n < 511) (b : Fin 2) (r : Fin 1024) (j : Fin 4096) (hr : r.val = 2 * n + b.val) :
    drive x a1 a2 wi selE (ix2 r j) = Spec.drive (Spec.kinE (xt x) (at2 a2)) (fun j k => wi (ix2 j k)) n b j := by
  rw [drive_at]
  refine Finset.sum_congr rfl fun k _ => congrArg (· * wi (ix2 j k)) ?_
  rw [if_neg (by pointwise [selE]; exact half_lt.2), kinE_tab _ n (by omega) b k r hr, rowE_eq x a1 a2 n hn]
  rfl

/-- The states the first reservoir kernel leaves are those of the plain text. -/
theorem lastS_at (b : Fin 2) (j : Fin 4096) :
    lastS x a1 a2 w wi (ix2 b j) = Spec.lastS (xt x) (at2 a1) (at2 a2) (fun j k => w (ix2 j k)) (fun j k => wi (ix2 j k)) b j := by
  unfold lastS
  rw [trail_end _ _ _ (fun b r hr hh => absurd ((fires_at x a1 a2 511 (by decide) b r hr).1 hh).1 (by decide))]
  exact trail_at _ _ _ _ _ _ (fun n hn b r hr => (fires_at x a1 a2 n (by omega) b r hr).trans (and_iff_right hn))
    (fun n hn b r j hr => driveS_at x a1 a2 wi n hn b r j hr) (fun j k => by pointwise [resW]) 511 le_rfl b j

/-- The states the second reservoir kernel leaves are those of the plain text. -/
theorem lastE_at (b : Fin 2) (j : Fin 4096) :
    lastE x a1 a2 w wi (ix2 b j) = Spec.lastE (xt x) (at2 a1) (at2 a2) (fun j k => w (ix2 j k)) (fun j k => wi (ix2 j k)) b j := by
  unfold lastE
  rw [trail_end _ _ _ (fun b r hr hh => absurd ((fires_at x a1 a2 511 (by decide) b r hr).1 hh).1 (by decide))]
  exact trail_at _ _ _ _ _ _ (fun n hn b r hr => (fires_at x a1 a2 n (by omega) b r hr).trans (and_iff_right hn))
    (fun n hn b r j hr => driveE_at x a1 a2 wi n hn b r j hr) (fun j k => by pointwise [resW]) 511 le_rfl b j

end

end Cert.KernelIdeal.Run
end
end
-- ==== Proof.RefEntry.lean ====
/- What the reference's loop starts from, as the plain text has it. -/
module

public import proofs.«01_k».proof.Proof.Gen.ReferenceIdeal.Run
public import proofs.«01_k».proof.Proof.Spec
public import Idealize.ShloMosaic.Lib.DynamicIndex

@[expose] public section

set_option maxRecDepth 16384

noncomputable section

namespace Cert.ReferenceIdeal.Loop

open Idealize.ShloMosaic Idealize.ShloMosaic.TcCoe Idealize.ShloMosaic.StableHlo Cert.ReferenceIdeal.Gen Cert.ReferenceIdeal.Value

/-! # What a buffer of a called function holds is what was put there -/

theorem ofBuf_v1 (v : Vec Ideal S2x511x512 .f32) (h h' h'') : (TRef.of (T := ⟨S2x511x512, .f32⟩) main_v1 h h' h'').ofBuf (Val := Elt Ideal) v = v := rfl
theorem ofBuf_v2 (v : Vec Ideal S2x511x512 .f32) (h h' h'') : (TRef.of (T := ⟨S2x511x512, .f32⟩) main_v2 h h' h'').ofBuf (Val := Elt Ideal) v = v := rfl
theorem toBuf_v3 (v : Vec Ideal S2x511x1 .f32) (h h' h'') : (TRef.of (T := ⟨S2x511x1, .f32⟩) main_v3 h h' h'').toBuf (Val := Elt Ideal) v = v := rfl
theorem toBuf_v8 (v : Vec Ideal S2x511x1 .f32) (h h' h'') : (TRef.of (T := ⟨S2x511x1, .f32⟩) main_v8 h h' h'').toBuf (Val := Elt Ideal) v = v := rfl

/-! # The entry -/

section
variable (m : (ℓ : Loc nD τ sig) → Buf (Elt Ideal) ℓ) (c : Dev nD)

/-- The arguments as tables of numbers. -/
abbrev X : Fin 2 → Fin 512 → Fin 1024 → EReal := fun b t k => m ((c.tc : Thread nD τ).loc main_arg0) (ix3 b t k)
abbrev A1 : Fin 512 → Fin 1024 → EReal := fun j k => m ((c.tc : Thread nD τ).loc main_arg1) (ix2 j k)
abbrev A2 : Fin 512 → Fin 1024 → EReal := fun j k => m ((c.tc : Thread nD τ).loc main_arg2) (ix2 j k)

/-- A row of the keys, at a step of the loop. -/
theorem keyRows_eq (x : Fin 2 → Fin 512 → Fin 1024 → EReal) (a : Fin 512 → Fin 1024 → EReal) (n : ℕ) (hn : n < 511) (b : Fin 2) (j : Fin 512) :
    ∑ k : Fin 1024, x b ⟨n, by omega⟩ k * a j k = Spec.keyRows x a n b j :=
  Finset.sum_congr rfl fun k _ => congrArg (fun t => x b t k * a j k) (Fin.ext (Nat.mod_eq_of_lt (by omega : n < 512)).symm)

/-- The keys' rows the loop starts from. -/
theorem entry_ks (n : ℕ) (hn : n < 511) (b : Fin 2) (j : Fin 512) :
    entryContents preI m c (Proc.devRef .tc main_v24_0) (ix3 ⟨n, hn⟩ b j) = Spec.keyRows (X m c) (A1 m c) n b j := by
  simp only [entryContents, afterL_cons, afterL_nil]
  after_reads_simp
  rw [id]
  pointwise
  exact keyRows_eq (X m c) (A1 m c) n hn b j
theorem entry_ke (n : ℕ) (hn : n < 511) (b : Fin 2) (j : Fin 512) :
    entryContents preI m c (Proc.devRef .tc main_v24_1) (ix3 ⟨n, hn⟩ b j) = Spec.keyRows (X m c) (A2 m c) n b j := by
  simp only [entryContents, afterL_cons, afterL_nil]
  after_reads_simp
  rw [id]
  pointwise
  exact keyRows_eq (X m c) (A2 m c) n hn b j
/-- The normalised rows the loop starts from. -/
theorem entry_us (n : ℕ) (hn : n < 511) (b : Fin 2) (j : Fin 512) :
    entryContents preI m c (Proc.devRef .tc main_v24_2) (ix3 ⟨n, hn⟩ b j) = Spec.unit (Spec.keyRows (X m c) (A1 m c) n) b j := by
  simp only [entryContents, afterL_cons, afterL_nil]
  after_reads_simp
  rw [id]
  simp only [TRef.ofBuf_toBuf, ofBuf_v1, toBuf_v3]
  pointwise
  simp only [keyRows_eq (X m c) (A1 m c) n hn, launchContents]
  rfl
theorem entry_ue (n : ℕ) (hn : n < 511) (b : Fin 2) (j : Fin 512) :
    entryContents preI m c (Proc.devRef .tc main_v24_3) (ix3 ⟨n, hn⟩ b j) = Spec.unit (Spec.keyRows (X m c) (A2 m c) n) b j := by
  simp only [entryContents, afterL_cons, afterL_nil]
  after_reads_simp
  rw [id]
  simp only [TRef.ofBuf_toBuf, ofBuf_v2, toBuf_v8]
  pointwise
  simp only [keyRows_eq (X m c) (A2 m c) n hn, launchContents]
  rfl
theorem entry_g (n : ℕ) (hn : n < 511) : entryContents preI m c (Proc.devRef .tc main_v24_4) (ix1 ⟨n, hn⟩) = Spec.recency n := by
  simp only [entryContents, afterL_cons, afterL_nil]
  after_reads_simp
  rw [id]
  pointwise
  show Ideal.div ((((BitVec.ofNat 32 n).toInt : ℝ) : EReal) + 1) _ = _
  rw [toInt_ofNat_of_lt (by omega)]
  rfl
theorem entry_hs (b : Fin 2) (j : Fin 4096) : entryContents preI m c (Proc.devRef .tc main_v24_10) (ix2 b j) = (0 : EReal) := by
  simp only [entryContents, afterL_cons, afterL_nil]
  after_reads_simp
  rw [id]
  pointwise
theorem entry_he (b : Fin 2) (j : Fin 4096) : entryContents preI m c (Proc.devRef .tc main_v24_11) (ix2 b j) = (0 : EReal) := by
  simp only [entryContents, afterL_cons, afterL_nil]
  after_reads_simp
  rw [id]
  pointwise
theorem entry_es (b : Fin 2) (j : Fin 512) : entryContents preI m c (Proc.devRef .tc main_v24_12) (ix2 b j) = (0 : EReal) := by
  simp only [entryContents, afterL_cons, afterL_nil]
  after_reads_simp
  rw [id]
  pointwise
theorem entry_ee (b : Fin 2) (j : Fin 512) : entryContents preI m c (Proc.devRef .tc main_v24_13) (ix2 b j) = (0 : EReal) := by
  simp only [entryContents, afterL_cons, afterL_nil]
  after_reads_simp
  rw [id]
  pointwise
theorem entry_ctr : entryContents preI m c (Proc.devRef .tc main_v24_9) = fun _ => BitVec.ofNat 32 0 := by
  simp only [entryContents, afterL_cons, afterL_nil]
  after_reads_simp
  rfl
theorem entry_w11 : entryContents preI m c (Proc.devRef .tc main_v24_5) = m ((c.tc : Thread nD τ).loc main_arg11) := by
  simp only [entryContents, afterL_cons, afterL_nil]
  after_reads_simp
  rfl
theorem entry_w12 : entryContents preI m c (Proc.devRef .tc main_v24_6) = m ((c.tc : Thread nD τ).loc main_arg12) := by
  simp only [entryContents, afterL_cons, afterL_nil]
  after_reads_simp
  rfl
theorem entry_w13 : entryContents preI m c (Proc.devRef .tc main_v24_7) = m ((c.tc : Thread nD τ).loc main_arg13) := by
  simp only [entryContents, afterL_cons, afterL_nil]
  after_reads_simp
  rfl
theorem entry_w14 : entryContents preI m c (Proc.devRef .tc main_v24_8) = m ((c.tc : Thread nD τ).loc main_arg14) := by
  simp only [entryContents, afterL_cons, afterL_nil]
  after_reads_simp
  rfl

end

end Cert.ReferenceIdeal.Loop
end
end
-- ==== Proof.RefSpec.lean ====
/- The reference's loop: what it starts from, and what 511 of its steps leave, as the plain text has it. -/
module

public import proofs.«01_k».proof.Proof.Gen.ReferenceIdeal.Run
public import proofs.«01_k».proof.Proof.RefEntry
public import Idealize.ShloMosaic.Lib.DynamicIndex

@[expose] public section

set_option maxRecDepth 16384

noncomputable section

namespace Cert.ReferenceIdeal.Loop

open Idealize.ShloMosaic Idealize.ShloMosaic.TcCoe Idealize.ShloMosaic.StableHlo Cert.ReferenceIdeal.Gen Cert.ReferenceIdeal.Value

/-! # One step -/

/-- The word the counter holds at step `n`, as a number. -/
theorem word_toInt (n : ℕ) (hn : n < 511) : (BitVec.ofNat 32 n).toInt = (n : Int) := toInt_ofNat_of_lt (by omega)

/-- A step's rows of a table of every step's rows. -/
theorem slice3_at (v : Vec Ideal S511x2x512 .f32) (w : Vec Ideal S_ .i32) (n : ℕ) (hn : n < 511) (hw : w = fun _ => BitVec.ofNat 32 n)
    (b : Fin 2) (j : Fin 512) :
    shapeCast S2x512 (Host.dynamicSlice S1x2x512 v (fun k => ((![w, constantI S_ 32 0#32, constantI S_ 32 0#32] : Fin 3 → (⟨S_, .i32⟩ : BufTy).Contents (Elt Ideal))
      k (Shape.Idx.first h_S_)).toInt) sliceFits_S511x2x512_S1x2x512) shapeCasts_S1x2x512_S2x512 (ix2 b j) = v (ix3 ⟨n, hn⟩ b j) := by
  subst hw
  rw [Host.dynamicSlice_eq_extractStridedSlice S1x2x512 v _ ![n, 0, 0] sliceFits_S511x2x512_S1x2x512
    ⟨rfl, fun a => by fin_cases a; exacts [by show n + 1 ≤ 511; omega, by show 0 + 2 ≤ 2; omega, by show 0 + 512 ≤ 512; omega]⟩
    (fun a => by fin_cases a; exacts [word_toInt n hn, rfl, rfl])]
  pointwise

/-- A step's number of a table of every step's numbers. -/
theorem slice1_at (v : Vec Ideal S511 .f32) (w : Vec Ideal S_ .i32) (n : ℕ) (hn : n < 511) (hw : w = fun _ => BitVec.ofNat 32 n) :
    broadcastInDim S2x512 ![] bcast_S_S2x512 (shapeCast S_ (Host.dynamicSlice S1 v (fun k => ((![w] : Fin 1 → (⟨S_, .i32⟩ : BufTy).Contents (Elt Ideal))
      k (Shape.Idx.first h_S_)).toInt) sliceFits_S511_S1) shapeCasts_S1_S_) = fun _ => v (ix1 ⟨n, hn⟩) := by
  subst hw
  rw [Host.dynamicSlice_eq_extractStridedSlice S1 v _ ![n] sliceFits_S511_S1
    ⟨rfl, fun a => by fin_cases a; exact (by show n + 1 ≤ 511; omega)⟩ (fun a => by fin_cases a; exact word_toInt n hn)]
  funext i
  idx_vars i
  pointwise

/-- One step of a reservoir. -/
theorem step_at (f : Vec Ideal S2x1 .i1) (st : FVec Ideal S2x4096 .f32) (w : FVec Ideal S4096x4096 .f32) (u : FVec Ideal S2x512 .f32) (wi : FVec Ideal S4096x512 .f32)
    (b : Fin 2) (j : Fin 4096) (P : Prop) [Decidable P] (U : Fin 512 → EReal) (hp : f (ix2 b 0) = 1#1 ↔ P) (hu : ∀ k, u (ix2 b k) = U k) :
    (select (broadcastInDim S2x4096 ![0, 1] bcast_S2x1_S2x4096_0_1 f) (Host.tanh (addf
      (Host.dotGeneral (F := Ideal) (φ₁ := .f32) (φ₂ := .f32) dot_S2x4096_S4096x4096_S2x4096_1_0_0_1_n_n none st (transpose S4096x4096 [1, 0] w transposes_S4096x4096_S4096x4096_1_0))
      (Host.dotGeneral (F := Ideal) (φ₁ := .f32) (φ₂ := .f32) dot_S2x512_S512x4096_S2x4096_1_0_0_1_n_n none u (transpose S512x4096 [1, 0] wi transposes_S4096x512_S512x4096_1_0)))) st : FVec Ideal S2x4096 .f32) (ix2 b j)
      = (if P then Ideal.tanh ((∑ k : Fin 4096, (st (ix2 b k) : EReal) * w (ix2 j k)) + ∑ k : Fin 512, U k * (wi (ix2 j k) : EReal)) else (st (ix2 b j) : EReal)) := by
  pointwise
  simp only [hu]
  exact if_congr hp rfl rfl

/-- What step `n` finds: the counter and the tables' rows of the step. -/
structure Finds (V : Valuation τ sig (Elt Ideal)) (ks ke us ue : ℕ → Spec.Rows) (g : ℕ → EReal) (n : ℕ) (hn : n < 511) : Prop where
  ctr : V (Proc.devRef .tc main_v24_9) = fun _ => BitVec.ofNat 32 n
  at_ks : ∀ b j, V (Proc.devRef .tc main_v24_0) (ix3 ⟨n, hn⟩ b j) = ks n b j
  at_ke : ∀ b j, V (Proc.devRef .tc main_v24_1) (ix3 ⟨n, hn⟩ b j) = ke n b j
  at_us : ∀ b j, V (Proc.devRef .tc main_v24_2) (ix3 ⟨n, hn⟩ b j) = us n b j
  at_ue : ∀ b j, V (Proc.devRef .tc main_v24_3) (ix3 ⟨n, hn⟩ b j) = ue n b j
  at_g : V (Proc.devRef .tc main_v24_4) (ix1 ⟨n, hn⟩) = g n
  at_es : ∀ b j, V (Proc.devRef .tc main_v24_12) (ix2 b j) = Spec.ema ks n b j
  at_ee : ∀ b j, V (Proc.devRef .tc main_v24_13) (ix2 b j) = Spec.ema ke n b j

/-- Either bit set. -/
theorem ori_bits (p q : Prop) [Decidable p] [Decidable q] : IntOp.ori (BitVec.ofBool (decide p)) (BitVec.ofBool (decide q)) = 1#1 ↔ p ∨ q := by
  by_cases hp : p <;> by_cases hq : q <;> simp [hp, hq, IntOp.ori]

section
variable {V : Valuation τ sig (Elt Ideal)} {ks ke us ue : ℕ → Spec.Rows} {g : ℕ → EReal} {n : ℕ} {hn : n < 511} (h : Finds V ks ke us ue g n hn)
include h

theorem rowS_at (b : Fin 2) (j : Fin 512) : res_main_while0b_v74 V (ix2 b j) = ks n b j :=
  (slice3_at _ _ n hn h.ctr b j).trans (h.at_ks b j)
theorem rowE_at (b : Fin 2) (j : Fin 512) : res_main_while0b_v75 V (ix2 b j) = ke n b j :=
  (slice3_at _ _ n hn h.ctr b j).trans (h.at_ke b j)
theorem offS_at (b : Fin 2) (j : Fin 512) : res_main_while0b_v79 V (ix2 b j) = ks n b j - Spec.ema ks n b j := by
  rw [← rowS_at h, ← h.at_es]; rfl
theorem offE_at (b : Fin 2) (j : Fin 512) : res_main_while0b_v81 V (ix2 b j) = ke n b j - Spec.ema ke n b j := by
  rw [← rowE_at h, ← h.at_ee]; rfl

theorem emaS_at (b : Fin 2) (j : Fin 512) : step_main_v24_12 V (ix2 b j) = Spec.ema ks (n + 1) b j := by
  rw [step_main_v24_12, id]
  pointwise
  rw [rowS_at h, h.at_es]; rfl
theorem emaE_at (b : Fin 2) (j : Fin 512) : step_main_v24_13 V (ix2 b j) = Spec.ema ke (n + 1) b j := by
  rw [step_main_v24_13, id]
  pointwise
  rw [rowE_at h, h.at_ee]; rfl

theorem fire_at (b : Fin 2) : res_main_while0b_v116 V (ix2 b 0) = 1#1 ↔ Spec.Fires ks ke n b := by
  pointwise [res_main_while0b_v116]
  simp only [rowS_at h, rowE_at h, offS_at h, offE_at h]
  exact ori_bits _ _

open Classical in
theorem stateS_at (b : Fin 2) (j : Fin 4096) (wi : Fin 4096 → Fin 512 → EReal) (w : Fin 4096 → Fin 4096 → EReal) (st : Fin 2 → Fin 4096 → EReal)
    (hst : ∀ b j, V (Proc.devRef .tc main_v24_10) (ix2 b j) = st b j)
    (hwi : ∀ j k, V (Proc.devRef .tc main_v24_6) (ix2 j k) = wi j k) (hw : ∀ j k, V (Proc.devRef .tc main_v24_5) (ix2 j k) = w j k) :
    step_main_v24_10 V (ix2 b j) = if Spec.Fires ks ke n b then Ideal.tanh ((∑ k : Fin 4096, st b k * w j k) + Spec.drive us wi n b j) else st b j := by
  rw [step_main_v24_10, id]
  refine (step_at _ _ _ _ _ b j (Spec.Fires ks ke n b) (us n b) (fire_at h b) fun k => (slice3_at _ _ n hn h.ctr b k).trans (h.at_us b k)).trans ?_
  simp only [hst, hwi, hw, Spec.drive]

open Classical in
theorem stateE_at (b : Fin 2) (j : Fin 4096) (wi : Fin 4096 → Fin 512 → EReal) (w : Fin 4096 → Fin 4096 → EReal) (st : Fin 2 → Fin 4096 → EReal)
    (hst : ∀ b j, V (Proc.devRef .tc main_v24_11) (ix2 b j) = st b j)
    (hwi : ∀ j k, V (Proc.devRef .tc main_v24_8) (ix2 j k) = wi j k) (hw : ∀ j k, V (Proc.devRef .tc main_v24_7) (ix2 j k) = w j k) :
    step_main_v24_11 V (ix2 b j) = if Spec.Fires ks ke n b then Ideal.tanh ((∑ k : Fin 4096, st b k * w j k)
      + Spec.drive (fun n b j => g n * ue n b j) wi n b j) else st b j := by
  rw [step_main_v24_11, id]
  refine (step_at _ _ _ _ _ b j (Spec.Fires ks ke n b) (fun k => g n * ue n b k) (fire_at h b) fun k =>
    congrArg₂ (· * ·) ((congrFun (slice1_at _ _ n hn h.ctr) (ix2 b k)).trans h.at_g) ((slice3_at _ _ n hn h.ctr b k).trans (h.at_ue b k))).trans ?_
  simp only [hst, hwi, hw, Spec.drive]

end

/-! # All the steps -/

section
variable (m : (ℓ : Loc nD τ sig) → Buf (Elt Ideal) ℓ) (c : Dev nD)

/-- The buffers before step `n`. -/
abbrev At (n : ℕ) : Valuation τ sig (Elt Ideal) := STEP^[n] (entryContents preI m c)

theorem At_succ (n : ℕ) : At m c (n + 1) = STEP (At m c n) := Function.iterate_succ_apply' ..

/-- A buffer no step writes stays as the loop found it. -/
theorem At_kept (r : DevRef τ sig) (hr : ∀ V : Valuation τ sig (Elt Ideal), STEP V r = V r) : ∀ n, At m c n r = entryContents preI m c r
  | 0 => rfl
  | n + 1 => by rw [At_succ, hr]; exact At_kept r hr n

theorem At_ctr : ∀ n, At m c n (Proc.devRef .tc main_v24_9) = fun _ => BitVec.ofNat 32 n
  | 0 => entry_ctr m c
  | n + 1 => by
    rw [At_succ, STEP_main_v24_9, step_main_v24_9, id, At_ctr n]
    funext i
    exact (BitVec.ofNat_add n 1).symm

/-- The keys' rows, the normalised rows, and the weights as tables of numbers. -/
abbrev KS : ℕ → Spec.Rows := Spec.keyRows (X m c) (A1 m c)
abbrev KE : ℕ → Spec.Rows := Spec.keyRows (X m c) (A2 m c)
abbrev UE : ℕ → Spec.Rows := fun n => Spec.unit (KE m c n)
abbrev W11 : Fin 4096 → Fin 4096 → EReal := fun j k => m ((c.tc : Thread nD τ).loc main_arg11) (ix2 j k)
abbrev W12 : Fin 4096 → Fin 512 → EReal := fun j k => m ((c.tc : Thread nD τ).loc main_arg12) (ix2 j k)
abbrev W13 : Fin 4096 → Fin 4096 → EReal := fun j k => m ((c.tc : Thread nD τ).loc main_arg13) (ix2 j k)
abbrev W14 : Fin 4096 → Fin 512 → EReal := fun j k => m ((c.tc : Thread nD τ).loc main_arg14) (ix2 j k)

/-- What a step finds, once its running averages are known. -/
theorem finds_of (n : ℕ) (hn : n < 511) (hs : ∀ b j, At m c n (Proc.devRef .tc main_v24_12) (ix2 b j) = Spec.ema (KS m c) n b j)
    (he : ∀ b j, At m c n (Proc.devRef .tc main_v24_13) (ix2 b j) = Spec.ema (KE m c) n b j) :
    Finds (At m c n) (KS m c) (KE m c) (Spec.kinS (X m c) (A1 m c)) (UE m c) Spec.recency n hn where
  ctr := At_ctr m c n
  at_ks b j := (congrFun (At_kept m c _ STEP_main_v24_0 n) _).trans (entry_ks m c n hn b j)
  at_ke b j := (congrFun (At_kept m c _ STEP_main_v24_1 n) _).trans (entry_ke m c n hn b j)
  at_us b j := (congrFun (At_kept m c _ STEP_main_v24_2 n) _).trans (entry_us m c n hn b j)
  at_ue b j := (congrFun (At_kept m c _ STEP_main_v24_3 n) _).trans (entry_ue m c n hn b j)
  at_g := (congrFun (At_kept m c _ STEP_main_v24_4 n) _).trans (entry_g m c n hn)
  at_es := hs
  at_ee := he

theorem emas : ∀ n ≤ 511, (∀ b j, At m c n (Proc.devRef .tc main_v24_12) (ix2 b j) = Spec.ema (KS m c) n b j)
    ∧ ∀ b j, At m c n (Proc.devRef .tc main_v24_13) (ix2 b j) = Spec.ema (KE m c) n b j
  | 0, _ => ⟨entry_es m c, entry_ee m c⟩
  | n + 1, hn => by
    have h := finds_of m c n (by omega) (emas n (by omega)).1 (emas n (by omega)).2
    rw [At_succ, STEP_main_v24_12, STEP_main_v24_13]
    exact ⟨emaS_at h, emaE_at h⟩

theorem finds (n : ℕ) (hn : n < 511) : Finds (At m c n) (KS m c) (KE m c) (Spec.kinS (X m c) (A1 m c)) (UE m c) Spec.recency n hn :=
  finds_of m c n hn (emas m c n hn.le).1 (emas m c n hn.le).2

theorem statesS : ∀ n ≤ 511, ∀ b j, At m c n (Proc.devRef .tc main_v24_10) (ix2 b j)
    = Spec.state (Spec.Fires (KS m c) (KE m c)) (Spec.drive (Spec.kinS (X m c) (A1 m c)) (W12 m c)) (W11 m c) n b j
  | 0, _, b, j => entry_hs m c b j
  | n + 1, hn, b, j => by
    rw [At_succ, STEP_main_v24_10]
    exact stateS_at (finds m c n (by omega)) b j (W12 m c) (W11 m c) _ (statesS n (by omega))
      (fun j k => congrFun ((At_kept m c _ STEP_main_v24_6 n).trans (entry_w12 m c)) _)
      (fun j k => congrFun ((At_kept m c _ STEP_main_v24_5 n).trans (entry_w11 m c)) _)

theorem statesE : ∀ n ≤ 511, ∀ b j, At m c n (Proc.devRef .tc main_v24_11) (ix2 b j)
    = Spec.state (Spec.Fires (KS m c) (KE m c)) (Spec.drive (Spec.kinE (X m c) (A2 m c)) (W14 m c)) (W13 m c) n b j
  | 0, _, b, j => entry_he m c b j
  | n + 1, hn, b, j => by
    rw [At_succ, STEP_main_v24_11]
    exact stateE_at (finds m c n (by omega)) b j (W14 m c) (W13 m c) _ (statesE n (by omega))
      (fun j k => congrFun ((At_kept m c _ STEP_main_v24_8 n).trans (entry_w14 m c)) _)
      (fun j k => congrFun ((At_kept m c _ STEP_main_v24_7 n).trans (entry_w13 m c)) _)

/-- The states the loop leaves are those of the plain text. -/
theorem lastS_at (b : Fin 2) (j : Fin 4096) :
    At m c 511 (Proc.devRef .tc main_v24_10) (ix2 b j) = Spec.lastS (X m c) (A1 m c) (A2 m c) (W11 m c) (W12 m c) b j := statesS m c 511 le_rfl b j
theorem lastE_at (b : Fin 2) (j : Fin 4096) :
    At m c 511 (Proc.devRef .tc main_v24_11) (ix2 b j) = Spec.lastE (X m c) (A1 m c) (A2 m c) (W13 m c) (W14 m c) b j := statesE m c 511 le_rfl b j

end

end Cert.ReferenceIdeal.Loop
end
end
-- ==== Proof.Readout.lean ====
/- The readout: the last kernel and the reference's last operations make the same result of the same last states. -/
module

public import proofs.«01_k».proof.Proof.KernelSpec
public import proofs.«01_k».proof.Proof.RefSpec

@[expose] public section

set_option maxRecDepth 16384

noncomputable section

namespace Cert.Readout

open Idealize.ShloMosaic Idealize.ShloMosaic.TcCoe Cert.KernelIdeal Cert.KernelIdeal.Run Cert.KernelIdeal.Gen

set_option maxHeartbeats 4000000 in
/-- The kernel's readout is the reference's. -/
theorem readout (V : Valuation Cert.ReferenceIdeal.τ Cert.ReferenceIdeal.sig (Elt Ideal)) :
    (Resv.outV (V (Proc.devRef .tc Cert.ReferenceIdeal.main_v24_10)) (V (Proc.devRef .tc Cert.ReferenceIdeal.main_v24_11))
      (outW (V (Proc.devRef .tc Cert.ReferenceIdeal.main_arg3))) (outW (V (Proc.devRef .tc Cert.ReferenceIdeal.main_arg4)))
      (query (V (Proc.devRef .tc Cert.ReferenceIdeal.main_arg0)))
      (transpose S1024x1 [1, 0] (V (Proc.devRef .tc Cert.ReferenceIdeal.main_arg5)) transposes_S1x1024_S1024x1_1_0)
      (shapeCast S1x1 (V (Proc.devRef .tc Cert.ReferenceIdeal.main_arg6)) shapeCasts_S1_S1x1)
      (transpose S1024x1024 [1, 0] (V (Proc.devRef .tc Cert.ReferenceIdeal.main_arg7)) transposes_S1024x1024_S1024x1024_1_0)
      (rowOfVec (V (Proc.devRef .tc Cert.ReferenceIdeal.main_arg8))) (rowOfVec (V (Proc.devRef .tc Cert.ReferenceIdeal.main_arg9)))
      (rowOfVec (V (Proc.devRef .tc Cert.ReferenceIdeal.main_arg10))) : FVec Ideal S2x1024 .f32) = Cert.ReferenceIdeal.Value.out_main_v73 V := by
  funext j
  idx_vars j
  pointwise [Resv.outV, k4_pay1, k4_pay2, outW, query, rowOfVec, Cert.ReferenceIdeal.Value.out_main_v73]
  simp only [Ideal.logistic]

end Cert.Readout
end
end
-- ==== Proof.Algebraic.lean ====
/- The idealized kernel and the reference end with the same result. -/
module

public import proofs.«01_k».proof.Defs
public import proofs.«01_k».proof.Proof.Readout

@[expose] public section

set_option maxRecDepth 16384

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- An argument of the reference, and the kernel's of the same place. -/
abbrev refArg (b : Ref Cert.ReferenceIdeal.sig .tc) := m' ((c.tc : Thread Cert.ReferenceIdeal.nD Cert.ReferenceIdeal.τ).loc b)

set_option maxHeartbeats 1000000 in
/-- From the same arguments, the same result. -/
theorem value_eq
    (h0 : refArg m' c Cert.ReferenceIdeal.main_arg0 = Cert.KernelIdeal.Run.arg m c Cert.KernelIdeal.main_arg0)
    (h1 : refArg m' c Cert.ReferenceIdeal.main_arg1 = Cert.KernelIdeal.Run.arg m c Cert.KernelIdeal.main_arg1)
    (h2 : refArg m' c Cert.ReferenceIdeal.main_arg2 = Cert.KernelIdeal.Run.arg m c Cert.KernelIdeal.main_arg2)
    (h3 : refArg m' c Cert.ReferenceIdeal.main_arg3 = Cert.KernelIdeal.Run.arg m c Cert.KernelIdeal.main_arg3)
    (h4 : refArg m' c Cert.ReferenceIdeal.main_arg4 = Cert.KernelIdeal.Run.arg m c Cert.KernelIdeal.main_arg4)
    (h5 : refArg m' c Cert.ReferenceIdeal.main_arg5 = Cert.KernelIdeal.Run.arg m c Cert.KernelIdeal.main_arg5)
    (h6 : refArg m' c Cert.ReferenceIdeal.main_arg6 = Cert.KernelIdeal.Run.arg m c Cert.KernelIdeal.main_arg6)
    (h7 : refArg m' c Cert.ReferenceIdeal.main_arg7 = Cert.KernelIdeal.Run.arg m c Cert.KernelIdeal.main_arg7)
    (h8 : refArg m' c Cert.ReferenceIdeal.main_arg8 = Cert.KernelIdeal.Run.arg m c Cert.KernelIdeal.main_arg8)
    (h9 : refArg m' c Cert.ReferenceIdeal.main_arg9 = Cert.KernelIdeal.Run.arg m c Cert.KernelIdeal.main_arg9)
    (h10 : refArg m' c Cert.ReferenceIdeal.main_arg10 = Cert.KernelIdeal.Run.arg m c Cert.KernelIdeal.main_arg10)
    (h11 : refArg m' c Cert.ReferenceIdeal.main_arg11 = Cert.KernelIdeal.Run.arg m c Cert.KernelIdeal.main_arg11)
    (h12 : refArg m' c Cert.ReferenceIdeal.main_arg12 = Cert.KernelIdeal.Run.arg m c Cert.KernelIdeal.main_arg12)
    (h13 : refArg m' c Cert.ReferenceIdeal.main_arg13 = Cert.KernelIdeal.Run.arg m c Cert.KernelIdeal.main_arg13)
    (h14 : refArg m' c Cert.ReferenceIdeal.main_arg14 = Cert.KernelIdeal.Run.arg m c Cert.KernelIdeal.main_arg14) :
    Cert.ReferenceIdeal.Value.out_main_v73 (Cert.ReferenceIdeal.Loop.At m' c 511) = Cert.KernelIdeal.Run.W12 m g c Cert.KernelIdeal.main_v34 := by
  rw [Cert.KernelIdeal.Run.result, ← Cert.Readout.readout]
  have hS : (Cert.ReferenceIdeal.Loop.At m' c 511 (Proc.devRef .tc Cert.ReferenceIdeal.main_v24_10) : Vec Ideal Cert.KernelIdeal.S2x4096 .f32)
      = Cert.KernelIdeal.Run.lastS (Cert.KernelIdeal.Run.arg m c Cert.KernelIdeal.main_arg0) (Cert.KernelIdeal.Run.arg m c Cert.KernelIdeal.main_arg1)
        (Cert.KernelIdeal.Run.arg m c Cert.KernelIdeal.main_arg2) (Cert.KernelIdeal.Run.arg m c Cert.KernelIdeal.main_arg11)
        (Cert.KernelIdeal.Run.arg m c Cert.KernelIdeal.main_arg12) := by
    funext i
    idx_vars i
    rw [Cert.KernelIdeal.Run.lastS_at, ← h0, ← h1, ← h2, ← h11, ← h12]
    exact Cert.ReferenceIdeal.Loop.lastS_at m' c _ _
  have hE : (Cert.ReferenceIdeal.Loop.At m' c 511 (Proc.devRef .tc Cert.ReferenceIdeal.main_v24_11) : Vec Ideal Cert.KernelIdeal.S2x4096 .f32)
      = Cert.KernelIdeal.Run.lastE (Cert.KernelIdeal.Run.arg m c Cert.KernelIdeal.main_arg0) (Cert.KernelIdeal.Run.arg m c Cert.KernelIdeal.main_arg1)
        (Cert.KernelIdeal.Run.arg m c Cert.KernelIdeal.main_arg2) (Cert.KernelIdeal.Run.arg m c Cert.KernelIdeal.main_arg13)
        (Cert.KernelIdeal.Run.arg m c Cert.KernelIdeal.main_arg14) := by
    funext i
    idx_vars i
    rw [Cert.KernelIdeal.Run.lastE_at, ← h0, ← h1, ← h2, ← h13, ← h14]
    exact Cert.ReferenceIdeal.Loop.lastE_at m' c _ _
  rw [← hS, ← hE, ← h0, ← h3, ← h4, ← h5, ← h6, ← h7, ← h8, ← h9, ← h10]
  unfold Cert.ReferenceIdeal.Loop.At refArg
  rw [Cert.ReferenceIdeal.Value.iter_main_arg0, Cert.ReferenceIdeal.Value.iter_main_arg3, Cert.ReferenceIdeal.Value.iter_main_arg4,
    Cert.ReferenceIdeal.Value.iter_main_arg5, Cert.ReferenceIdeal.Value.iter_main_arg6, Cert.ReferenceIdeal.Value.iter_main_arg7,
    Cert.ReferenceIdeal.Value.iter_main_arg8, Cert.ReferenceIdeal.Value.iter_main_arg9, Cert.ReferenceIdeal.Value.iter_main_arg10]

end

/-- The claim: both run, the results agree, the arguments stay. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Run.W12 m g c Cert.KernelIdeal.main_v34, ?_, ?_⟩
  · refine (θ_run _ _ _).mono (fun r h c => ?_) (Cert.KernelIdeal.Run.run m g)
    have keep := Cert.KernelIdeal.Run.arg_end m g c (h.1 c)
    exact ⟨h.1 c _ (Cert.KernelIdeal.Run.mem_uc _ (by decide)), keep _ (by decide) (by decide), keep _ (by decide) (by decide), keep _ (by decide) (by decide),
      keep _ (by decide) (by decide), keep _ (by decide) (by decide), keep _ (by decide) (by decide), keep _ (by decide) (by decide),
      keep _ (by decide) (by decide), keep _ (by decide) (by decide), keep _ (by decide) (by decide), keep _ (by decide) (by decide),
      keep _ (by decide) (by decide), keep _ (by decide) (by decide), keep _ (by decide) (by decide), keep _ (by decide) (by decide)⟩
  · refine (θ_run _ _ _).mono (fun r h c => ⟨(h c).1.trans ?_, (h c).2⟩) (Cert.ReferenceIdeal.Value.run m' g')
    obtain ⟨h0, h1, h2, h3, h4, h5, h6, h7, h8, h9, h10, h11, h12, h13, h14⟩ := hargs c
    exact value_eq m g m' c h0 h1 h2 h3 h4 h5 h6 h7 h8 h9 h10 h11 h12 h13 h14

end Cert.Proof
end
end
-- ==== Proof.lean ====
/- The certificate: the claims, assembled from the modules under Proof. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

set_option maxRecDepth 16384

noncomputable section

namespace Cert.Proof

open Idealize.ShloMosaic Idealize.SL.Sem Cert.Kernel

/-- Everything this certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
